-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1000x3 : Shape := ⟨2, ![1000, 3]⟩
abbrev S1x4x20000 : Shape := ⟨3, ![1, 4, 20000]⟩
abbrev S1x80x20000 : Shape := ⟨3, ![1, 80, 20000]⟩
abbrev S_ : Shape := ⟨0, ![]⟩

class Facts : Prop where
  bcast_S_S1000x3 : S_.BroadcastsInDim S1000x3 (![] : Fin 0 → Fin S1000x3.rank)
  reducesTo_S1000x3_S_d0_1 : S1000x3.ReducesTo [0, 1] S_
  h_S_ : 0 < S_.numel

variable [Facts]

def fn {F : FTy → Type} [FloatOps F] (main_arg0 : IVec S1000x3 32) (main_arg1 : FVec F S1x4x20000 .f32) (main_arg2 : FVec F S1x80x20000 .f32) : IVec S_ 1 :=
  let main_c : IVec S_ 32 := constantI S_ 32 0#32
  let main_v0 : IVec S1000x3 32 := broadcastInDim S1000x3 ![] bcast_S_S1000x3 main_c
  let main_v1 : IVec S1000x3 1 := cmpi .sge main_arg0 main_v0
  let main_c_0 : IVec S_ 32 := constantI S_ 32 20000#32
  let main_v2 : IVec S1000x3 32 := broadcastInDim S1000x3 ![] bcast_S_S1000x3 main_c_0
  let main_v3 : IVec S1000x3 1 := cmpi .slt main_arg0 main_v2
  let main_v4 : IVec S1000x3 1 := andi main_v1 main_v3
  let main_c_1 : IVec S_ 1 := constantI S_ 1 1#1
  let main_v5 : IVec S_ 1 := (fun x v => Host.reduce IntOp.andi x v reducesTo_S1000x3_S_d0_1 h_S_) main_v4 main_c_1
  main_v5
-- ==== Kernel.lean ====
abbrev S1000x3 : Shape := ⟨2, ![1000, 3]⟩
abbrev S1x4x20000 : Shape := ⟨3, ![1, 4, 20000]⟩
abbrev S1x80x20000 : Shape := ⟨3, ![1, 80, 20000]⟩
abbrev S1000x1 : Shape := ⟨2, ![1000, 1]⟩
abbrev S1000 : Shape := ⟨1, ![1000]⟩
abbrev S_ : Shape := ⟨0, ![]⟩
abbrev S1024 : Shape := ⟨1, ![1024]⟩
abbrev S1600000 : Shape := ⟨1, ![1600000]⟩
abbrev S80000 : Shape := ⟨1, ![80000]⟩
abbrev S4x1024 : Shape := ⟨2, ![4, 1024]⟩
abbrev S32 : Shape := ⟨1, ![32]⟩
abbrev S20x128 : Shape := ⟨2, ![20, 128]⟩
abbrev S2560 : Shape := ⟨1, ![2560]⟩
abbrev S128 : Shape := ⟨1, ![128]⟩
abbrev S4x32 : Shape := ⟨2, ![4, 32]⟩
abbrev S16 : Shape := ⟨1, ![16]⟩
abbrev S1x16 : Shape := ⟨2, ![1, 16]⟩
abbrev S1x128 : Shape := ⟨2, ![1, 128]⟩
abbrev S1x32 : Shape := ⟨2, ![1, 32]⟩
abbrev S1x1000 : Shape := ⟨2, ![1, 1000]⟩
abbrev S1000x4 : Shape := ⟨2, ![1000, 4]⟩
abbrev S1x1000x4 : Shape := ⟨3, ![1, 1000, 4]⟩

abbrev nBuf : Table → Nat
  | .hbm => 31
  | .local .scVector .vmem => 8
  | _ => 0

abbrev bufTy : (tb : Table) → Fin (nBuf tb) → BufTy
  | .hbm, ⟨0, _⟩ => ⟨S1000x3, .i32⟩
  | .hbm, ⟨1, _⟩ => ⟨S1x4x20000, .f32⟩
  | .hbm, ⟨2, _⟩ => ⟨S1x80x20000, .f32⟩
  | .hbm, ⟨3, _⟩ => ⟨S1000x1, .i32⟩
  | .hbm, ⟨4, _⟩ => ⟨S1000, .i32⟩
  | .hbm, ⟨5, _⟩ => ⟨S_, .i32⟩
  | .hbm, ⟨6, _⟩ => ⟨S_, .i32⟩
  | .hbm, ⟨7, _⟩ => ⟨S1024, .i32⟩
  | .hbm, ⟨8, _⟩ => ⟨S1600000, .f32⟩
  | .hbm, ⟨9, _⟩ => ⟨S80000, .f32⟩
  | .hbm, ⟨10, _⟩ => ⟨S4x1024, .f32⟩
  | .hbm, ⟨11, _⟩ => ⟨S1024, .f32⟩
  | .hbm, ⟨12, _⟩ => ⟨S1024, .i32⟩
  | .hbm, ⟨13, _⟩ => ⟨S1x1000, .f32⟩
  | .hbm, ⟨14, _⟩ => ⟨S1000, .f32⟩
  | .hbm, ⟨15, _⟩ => ⟨S1x1000, .f32⟩
  | .hbm, ⟨16, _⟩ => ⟨S1000, .f32⟩
  | .hbm, ⟨17, _⟩ => ⟨S1x1000, .f32⟩
  | .hbm, ⟨18, _⟩ => ⟨S1000, .f32⟩
  | .hbm, ⟨19, _⟩ => ⟨S1x1000, .f32⟩
  | .hbm, ⟨20, _⟩ => ⟨S1000, .f32⟩
  | .hbm, ⟨21, _⟩ => ⟨S1000x1, .f32⟩
  | .hbm, ⟨22, _⟩ => ⟨S1000x1, .f32⟩
  | .hbm, ⟨23, _⟩ => ⟨S1000x1, .f32⟩
  | .hbm, ⟨24, _⟩ => ⟨S1000x1, .f32⟩
  | .hbm, ⟨25, _⟩ => ⟨S1000x4, .f32⟩
  | .hbm, ⟨26, _⟩ => ⟨S1x1000x4, .f32⟩
  | .hbm, ⟨27, _⟩ => ⟨S1000, .f32⟩
  | .hbm, ⟨28, _⟩ => ⟨S1x1000, .f32⟩
  | .hbm, ⟨29, _⟩ => ⟨S1000, .i32⟩
  | .hbm, ⟨30, _⟩ => ⟨S1x1000, .i32⟩
  | .local .scVector .vmem, ⟨0, _⟩ => ⟨S32, .i32⟩
  | .local .scVector .vmem, ⟨1, _⟩ => ⟨S20x128, .i32⟩
  | .local .scVector .vmem, ⟨2, _⟩ => ⟨S2560, .f32⟩
  | .local .scVector .vmem, ⟨3, _⟩ => ⟨S128, .i32⟩
  | .local .scVector .vmem, ⟨4, _⟩ => ⟨S128, .f32⟩
  | .local .scVector .vmem, ⟨5, _⟩ => ⟨S32, .f32⟩
  | .local .scVector .vmem, ⟨6, _⟩ => ⟨S32, .i32⟩
  | .local .scVector .vmem, ⟨7, _⟩ => ⟨S4x32, .f32⟩
  | _, _ => ⟨S1000x3, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v2_scv : Ref sig .scVector := ⟨.hbm, 7, rfl⟩
abbrev main_v3_scv : Ref sig .scVector := ⟨.hbm, 8, rfl⟩
abbrev main_v4_scv : Ref sig .scVector := ⟨.hbm, 9, rfl⟩
abbrev main_v5_0_scv : Ref sig .scVector := ⟨.hbm, 10, rfl⟩
abbrev main_v5_1_scv : Ref sig .scVector := ⟨.hbm, 11, rfl⟩
abbrev main_v5_2_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let c0_i32_688 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![0, v2.toNat]
def k0_off3 (i : grid0.Coords) : Fin 2 → Nat :=
  let c1_i32_690 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![1, v2.toNat]
def k0_off4 (i : grid0.Coords) : Fin 2 → Nat :=
  let c2_i32_692 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![2, v2.toNat]
def k0_off5 (i : grid0.Coords) : Fin 2 → Nat :=
  let c3_i32_694 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![3, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000x3 : Shape := ⟨2, ![1000, 3]⟩
abbrev S1x4x20000 : Shape := ⟨3, ![1, 4, 20000]⟩
abbrev S1x80x20000 : Shape := ⟨3, ![1, 80, 20000]⟩
abbrev S1000x1 : Shape := ⟨2, ![1000, 1]⟩
abbrev S1000x1x4 : Shape := ⟨3, ![1000, 1, 4]⟩
abbrev S1000x4 : Shape := ⟨2, ![1000, 4]⟩
abbrev S1x1000x4 : Shape := ⟨3, ![1, 1000, 4]⟩
abbrev S1x20000x4 : Shape := ⟨3, ![1, 20000, 4]⟩
abbrev S_ : Shape := ⟨0, ![]⟩
abbrev S1000x4x1 : Shape := ⟨3, ![1000, 4, 1]⟩
abbrev S1 : Shape := ⟨1, ![1]⟩
abbrev S1x1x1 : Shape := ⟨3, ![1, 1, 1]⟩
abbrev S1000x1x80 : Shape := ⟨3, ![1000, 1, 80]⟩
abbrev S1000x80 : Shape := ⟨2, ![1000, 80]⟩
abbrev S1x1000x80 : Shape := ⟨3, ![1, 1000, 80]⟩
abbrev S1x20000x80 : Shape := ⟨3, ![1, 20000, 80]⟩
abbrev S1000x80x1 : Shape := ⟨3, ![1000, 80, 1]⟩
abbrev S1x1000 : Shape := ⟨2, ![1, 1000]⟩
abbrev S1x1000x1 : Shape := ⟨3, ![1, 1000, 1]⟩

abbrev nBuf : Space → Nat
  | .hbm => 107
  | .vmem => 0
  | .smem => 0
  | _ => 0

abbrev bufTy : (tb : Table) → Fin (tcTables nBuf tb) → BufTy
  | .hbm, ⟨0, _⟩ => ⟨S1000x3, .i32⟩
  | .hbm, ⟨1, _⟩ => ⟨S1x4x20000, .f32⟩
  | .hbm, ⟨2, _⟩ => ⟨S1x80x20000, .f32⟩
  | .hbm, ⟨3, _⟩ => ⟨S1000x1, .i32⟩
  | .hbm, ⟨4, _⟩ => ⟨S1000x1x4, .i32⟩
  | .hbm, ⟨5, _⟩ => ⟨S1000x4, .i32⟩
  | .hbm, ⟨6, _⟩ => ⟨S1x1000x4, .i32⟩
  | .hbm, ⟨7, _⟩ => ⟨S1x20000x4, .f32⟩
  | .hbm, ⟨8, _⟩ => ⟨S_, .i32⟩
  | .hbm, ⟨9, _⟩ => ⟨S1x1000x4, .i32⟩
  | .hbm, ⟨10, _⟩ => ⟨S1x1000x4, .i1⟩
  | .hbm, ⟨11, _⟩ => ⟨S_, .i32⟩
  | .hbm, ⟨12, _⟩ => ⟨S1x1000x4, .i32⟩
  | .hbm, ⟨13, _⟩ => ⟨S1x1000x4, .i32⟩
  | .hbm, ⟨14, _⟩ => ⟨S1x1000x4, .i32⟩
  | .hbm, ⟨15, _⟩ => ⟨S1000x4x1, .i32⟩
  | .hbm, ⟨16, _⟩ => ⟨S1, .i32⟩
  | .hbm, ⟨17, _⟩ => ⟨S_, .i32⟩
  | .hbm, ⟨18, _⟩ => ⟨S1000x4x1, .i32⟩
  | .hbm, ⟨19, _⟩ => ⟨S1000x4x1, .i1⟩
  | .hbm, ⟨20, _⟩ => ⟨S1x1x1, .i32⟩
  | .hbm, ⟨21, _⟩ => ⟨S1000x4x1, .i32⟩
  | .hbm, ⟨22, _⟩ => ⟨S1000x4x1, .i1⟩
  | .hbm, ⟨23, _⟩ => ⟨S1000x4x1, .i1⟩
  | .hbm, ⟨24, _⟩ => ⟨S_, .i1⟩
  | .hbm, ⟨25, _⟩ => ⟨S1000x4, .i1⟩
  | .hbm, ⟨26, _⟩ => ⟨S1x1000x4, .f32⟩
  | .hbm, ⟨27, _⟩ => ⟨S1x1000x4, .i1⟩
  | .hbm, ⟨28, _⟩ => ⟨S_, .f32⟩
  | .hbm, ⟨29, _⟩ => ⟨S1x1000x4, .f32⟩
  | .hbm, ⟨30, _⟩ => ⟨S1x1000x4, .f32⟩
  | .hbm, ⟨31, _⟩ => ⟨S1000x1, .i32⟩
  | .hbm, ⟨32, _⟩ => ⟨S1000x1x80, .i32⟩
  | .hbm, ⟨33, _⟩ => ⟨S1000x80, .i32⟩
  | .hbm, ⟨34, _⟩ => ⟨S1x1000x80, .i32⟩
  | .hbm, ⟨35, _⟩ => ⟨S1x20000x80, .f32⟩
  | .hbm, ⟨36, _⟩ => ⟨S_, .i32⟩
  | .hbm, ⟨37, _⟩ => ⟨S1x1000x80, .i32⟩
  | .hbm, ⟨38, _⟩ => ⟨S1x1000x80, .i1⟩
  | .hbm, ⟨39, _⟩ => ⟨S_, .i32⟩
  | .hbm, ⟨40, _⟩ => ⟨S1x1000x80, .i32⟩
  | .hbm, ⟨41, _⟩ => ⟨S1x1000x80, .i32⟩
  | .hbm, ⟨42, _⟩ => ⟨S1x1000x80, .i32⟩
  | .hbm, ⟨43, _⟩ => ⟨S1000x80x1, .i32⟩
  | .hbm, ⟨44, _⟩ => ⟨S1, .i32⟩
  | .hbm, ⟨45, _⟩ => ⟨S_, .i32⟩
  | .hbm, ⟨46, _⟩ => ⟨S1000x80x1, .i32⟩
  | .hbm, ⟨47, _⟩ => ⟨S1000x80x1, .i1⟩
  | .hbm, ⟨48, _⟩ => ⟨S1x1x1, .i32⟩
  | .hbm, ⟨49, _⟩ => ⟨S1000x80x1, .i32⟩
  | .hbm, ⟨50, _⟩ => ⟨S1000x80x1, .i1⟩
  | .hbm, ⟨51, _⟩ => ⟨S1000x80x1, .i1⟩
  | .hbm, ⟨52, _⟩ => ⟨S_, .i1⟩
  | .hbm, ⟨53, _⟩ => ⟨S1000x80, .i1⟩
  | .hbm, ⟨54, _⟩ => ⟨S1x1000x80, .f32⟩
  | .hbm, ⟨55, _⟩ => ⟨S1x1000x80, .i1⟩
  | .hbm, ⟨56, _⟩ => ⟨S_, .f32⟩
  | .hbm, ⟨57, _⟩ => ⟨S1x1000x80, .f32⟩
  | .hbm, ⟨58, _⟩ => ⟨S1x1000x80, .f32⟩
  | .hbm, ⟨59, _⟩ => ⟨S_, .f32⟩
  | .hbm, ⟨60, _⟩ => ⟨S1x1000, .f32⟩
  | .hbm, ⟨61, _⟩ => ⟨S1x1000x80, .i32⟩
  | .hbm, ⟨62, _⟩ => ⟨S_, .f32⟩
  | .hbm, ⟨63, _⟩ => ⟨S_, .i32⟩
  | .hbm, ⟨64, _⟩ => ⟨S1x1000, .f32⟩
  | .hbm, ⟨65, _⟩ => ⟨S1x1000, .i32⟩
  | .hbm, ⟨66, _⟩ => ⟨S1x1000x1, .f32⟩
  | .hbm, ⟨67, _⟩ => ⟨S1x1000, .f32⟩
  | .hbm, ⟨68, _⟩ => ⟨S1x1000x1, .f32⟩
  | .hbm, ⟨69, _⟩ => ⟨S1x1000, .f32⟩
  | .hbm, ⟨70, _⟩ => ⟨S1x1000x1, .f32⟩
  | .hbm, ⟨71, _⟩ => ⟨S1x1000, .f32⟩
  | .hbm, ⟨72, _⟩ => ⟨S1x1000x1, .f32⟩
  | .hbm, ⟨73, _⟩ => ⟨S1x1000, .f32⟩
  | .hbm, ⟨74, _⟩ => ⟨S_, .f32⟩
  | .hbm, ⟨75, _⟩ => ⟨S1x1000, .f32⟩
  | .hbm, ⟨76, _⟩ => ⟨S1x1000, .f32⟩
  | .hbm, ⟨77, _⟩ => ⟨S1x1000, .f32⟩
  | .hbm, ⟨78, _⟩ => ⟨S_, .f32⟩
  | .hbm, ⟨79, _⟩ => ⟨S1x1000, .f32⟩
  | .hbm, ⟨80, _⟩ => ⟨S1x1000, .f32⟩
  | .hbm, ⟨81, _⟩ => ⟨S_, .f32⟩
  | .hbm, ⟨82, _⟩ => ⟨S1x1000, .f32⟩
  | .hbm, ⟨83, _⟩ => ⟨S1x1000, .f32⟩
  | .hbm, ⟨84, _⟩ => ⟨S1x1000, .f32⟩
  | .hbm, ⟨85, _⟩ => ⟨S_, .f32⟩
  | .hbm, ⟨86, _⟩ => ⟨S1x1000, .f32⟩
  | .hbm, ⟨87, _⟩ => ⟨S1x1000, .f32⟩
  | .hbm, ⟨88, _⟩ => ⟨S_, .f32⟩
  | .hbm, ⟨89, _⟩ => ⟨S1x1000, .f32⟩
  | .hbm, ⟨90, _⟩ => ⟨S1x1000, .f32⟩
  | .hbm, ⟨91, _⟩ => ⟨S1x1000, .f32⟩
  | .hbm, ⟨92, _⟩ => ⟨S_, .f32⟩
  | .hbm, ⟨93, _⟩ => ⟨S1x1000, .f32⟩
  | .hbm, ⟨94, _⟩ => ⟨S1x1000, .f32⟩
  | .hbm, ⟨95, _⟩ => ⟨S_, .f32⟩
  | .hbm, ⟨96, _⟩ => ⟨S1x1000, .f32⟩
  | .hbm, ⟨97, _⟩ => ⟨S1x1000, .f32⟩
  | .hbm, ⟨98, _⟩ => ⟨S1x1000, .f32⟩
  | .hbm, ⟨99, _⟩ => ⟨S_, .f32⟩
  | .hbm, ⟨100, _⟩ => ⟨S1x1000, .f32⟩
  | .hbm, ⟨101, _⟩ => ⟨S1x1000, .f32⟩
  | .hbm, ⟨102, _⟩ => ⟨S1x1000x1, .f32⟩
  | .hbm, ⟨103, _⟩ => ⟨S1x1000x1, .f32⟩
  | .hbm, ⟨104, _⟩ => ⟨S1x1000x1, .f32⟩
  | .hbm, ⟨105, _⟩ => ⟨S1x1000x1, .f32⟩
  | .hbm, ⟨106, _⟩ => ⟨S1x1000x4, .f32⟩
  | _, _ => ⟨S1000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v11 : Ref sig .tc := ⟨.hbm, 58, rfl⟩
abbrev main_cst : Ref sig .tc := ⟨.hbm, 59, rfl⟩
abbrev main_v12 : Ref sig .tc := ⟨.hbm, 60, rfl⟩
abbrev main_call2_v0 : Ref sig .tc := ⟨.hbm, 61, rfl⟩
abbrev main_call2_cst : Ref sig .tc := ⟨.hbm, 62, rfl⟩
abbrev main_call2_c : Ref sig .tc := ⟨.hbm, 63, rfl⟩
abbrev main_call2_v1_0 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_0 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_cst_1 : Ref sig .tc := ⟨.hbm, 78, rfl⟩
abbrev main_v25 : Ref sig .tc := ⟨.hbm, 79, rfl⟩
abbrev main_v26 : Ref sig .tc := ⟨.hbm, 80, rfl⟩
abbrev main_cst_2 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_cst_3 : Ref sig .tc := ⟨.hbm, 85, rfl⟩
abbrev main_v30 : Ref sig .tc := ⟨.hbm, 86, rfl⟩
abbrev main_v31 : Ref sig .tc := ⟨.hbm, 87, rfl⟩
abbrev main_cst_4 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_5 : Ref sig .tc := ⟨.hbm, 92, rfl⟩
abbrev main_v35 : Ref sig .tc := ⟨.hbm, 93, rfl⟩
abbrev main_v36 : Ref sig .tc := ⟨.hbm, 94, rfl⟩
abbrev main_cst_6 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_7 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩

abbrev nD : Nat := 1
abbrev τ : Topo := Topo.v7x

variable {F : FTy → Type} [FloatOps F]
-- ==== Proof.Rolled.lean ====
/- The tile's program with its unrolled runs of equal statements written as recursions over a counter: the 160 stores of the
   score positions, the 8 of the box positions, the 20 gathers and their 20 waits, and per half of the tile the 79
   comparisons. -/
module

public import proofs.«01_k».proof.Proof.Gen.Kernel.Skeleton

@[expose] public section

noncomputable section

namespace Cert.Kernel.Tile

open Idealize.ShloMosaic Idealize.SL.Sem Cert.Kernel.Gen

variable {F : FTy → Type} [FloatOps F]

/-- The programs of the tile at coordinates `i`. -/
abbrev TProg (i : grid0.Coords) (α : Type) : Type 1 :=
  Prog (TpuEff nD τ sig (Elt F) Λ₀ (.scVector ((i 0).castLE hcore0) ((i 1).castLE hsub0))) α

/-! ## The buffers -/

/-- The positions' list in HBM. -/ abbrev idxHbm : Memref sig .scVector .hbm S1024 .i32 := Memref.whole main_v2_scv
/-- The scores, flat. -/ abbrev scoreHbm : Memref sig .scVector .hbm S1600000 .f32 := Memref.whole main_v3_scv
/-- The boxes, flat. -/ abbrev boxHbm : Memref sig .scVector .hbm S80000 .f32 := Memref.whole main_v4_scv
/-- The corners' result. -/ abbrev bboxOut : Memref sig .scVector .hbm S4x1024 .f32 := Memref.whole main_v5_0_scv
/-- The best scores' result. -/ abbrev bestOut : Memref sig .scVector .hbm S1024 .f32 := Memref.whole main_v5_1_scv
/-- The best classes' result. -/ abbrev clsOut : Memref sig .scVector .hbm S1024 .i32 := Memref.whole main_v5_2_scv
/-- The tile's 32 positions. -/ abbrev idxV : Memref sig .scVector .vmem S32 .i32 := Memref.whole cc0_scratch0
/-- The 2560 positions into the scores. -/ abbrev fidxV : Memref sig .scVector .vmem S20x128 .i32 := Memref.whole cc0_scratch1
/-- The 2560 scores. -/ abbrev scV : Memref sig .scVector .vmem S2560 .f32 := Memref.whole cc0_scratch2
/-- The 128 positions into the boxes. -/ abbrev bidxV : Memref sig .scVector .vmem S128 .i32 := Memref.whole cc0_scratch3
/-- The 128 box entries. -/ abbrev bxV : Memref sig .scVector .vmem S128 .f32 := Memref.whole cc0_scratch4
/-- The tile's best scores. -/ abbrev mxV : Memref sig .scVector .vmem S32 .f32 := Memref.whole cc0_scratch5
/-- The tile's best classes. -/ abbrev agV : Memref sig .scVector .vmem S32 .i32 := Memref.whole cc0_scratch6
/-- The tile's corners. -/ abbrev bbV : Memref sig .scVector .vmem S4x32 .f32 := Memref.whole cc0_scratch7

/-! ## Rectangles by counter -/

theorem inb9 (k : Nat) : ∀ a, (![k / 8 % 20, 16 * (k % 8)] : Fin 2 → Nat) a + S1x16.size a ≤ S20x128.size a := by
  intro a; fin_cases a <;> simp [S1x16, S20x128] <;> omega
theorem inb11 (k : Nat) : ∀ a, (![16 * (k % 8)] : Fin 1 → Nat) a + S16.size a ≤ S128.size a := by
  intro a; fin_cases a; simp [S16, S128]; omega
theorem inb10w (r : Nat) : ∀ a, (![128 * (r % 20)] : Fin 1 → Nat) a + S128.size a ≤ S2560.size a := by
  intro a; fin_cases a; simp [S2560, S128]; omega
theorem inb9w (r : Nat) : ∀ a, (![r % 20, 0] : Fin 2 → Nat) a + S1x128.size a ≤ S20x128.size a := by
  intro a; fin_cases a <;> simp [S1x128, S20x128]; omega
theorem inb10 (h k : Nat) : ∀ a, (![32 * (k % 80) + 16 * (h % 2)] : Fin 1 → Nat) a + S16.size a ≤ S2560.size a := by
  intro a; fin_cases a; simp [S16, S2560]; omega
theorem inb13 (h : Nat) : ∀ a, (![16 * (h % 2)] : Fin 1 → Nat) a + S16.size a ≤ S32.size a := by
  intro a; fin_cases a; simp [S16, S32]; omega
theorem inb12 (h c : Nat) : ∀ a, (![32 * (c % 4) + 16 * (h % 2)] : Fin 1 → Nat) a + S16.size a ≤ S128.size a := by
  intro a; fin_cases a; simp [S16, S128]; omega
theorem inb15 (h c : Nat) : ∀ a, (![c % 4, 16 * (h % 2)] : Fin 2 → Nat) a + S1x16.size a ≤ S4x32.size a := by
  intro a; fin_cases a <;> simp [S1x16, S4x32] <;> omega
theorem inb15w (c : Nat) : ∀ a, (![c % 4, 0] : Fin 2 → Nat) a + S1x32.size a ≤ S4x32.size a := by
  intro a; fin_cases a <;> simp [S1x32, S4x32]; omega

/-- Sixteen entries of the score positions: the `k`-th store's. -/
abbrev rect9 (k : Nat) : Rect S20x128 := Rect.unit (s := S20x128) ![k / 8 % 20, 16 * (k % 8)] S1x16.size (inb9 k)
/-- Sixteen entries of the box positions: the `k`-th store's. -/
abbrev rect11 (k : Nat) : Rect S128 := Rect.unit (s := S128) ![16 * (k % 8)] S16.size (inb11 k)
/-- The scores of class `k` for the half `h`. -/
abbrev rect10 (h k : Nat) : Rect S2560 := Rect.unit (s := S2560) ![32 * (k % 80) + 16 * (h % 2)] S16.size (inb10 h k)
/-- The half `h` of a row of 32. -/
abbrev rect13 (h : Nat) : Rect S32 := Rect.unit (s := S32) ![16 * (h % 2)] S16.size (inb13 h)
/-- Box field `c` for the half `h`. -/
abbrev rect12 (h c : Nat) : Rect S128 := Rect.unit (s := S128) ![32 * (c % 4) + 16 * (h % 2)] S16.size (inb12 h c)
/-- Corner `c` for the half `h`. -/
abbrev rect15 (h c : Nat) : Rect S4x32 := Rect.unit (s := S4x32) ![c % 4, 16 * (h % 2)] S1x16.size (inb15 h c)

/-- The `r`-th window of 128 scores. -/
abbrev scWin (r : Nat) : Memref sig .scVector .vmem S128 .f32 :=
  scV.slice (Rect.unit (s := S2560) ![128 * (r % 20)] S128.size (inb10w r)) (fun _ => rfl)
/-- The `r`-th row of the score positions. -/
abbrev fidxRow (r : Nat) : Memref sig .scVector .vmem S128 .i32 :=
  (fidxV.slice (Rect.unit (s := S20x128) ![r % 20, 0] S1x128.size (inb9w r)) (fun _ => rfl)).squeeze S128 squeezes_S1x128_S128
/-- The scores, as a gather names them. -/
abbrev scoreAll : Memref sig .scVector .hbm S1600000 .f32 :=
  scoreHbm.slice (Rect.unit (s := S1600000) ![0] S1600000.size inb_S1600000_S1600000_0) (fun _ => rfl)
/-- The boxes, as a gather names them. -/
abbrev boxAll : Memref sig .scVector .hbm S80000 .f32 :=
  boxHbm.slice (Rect.unit (s := S80000) ![0] S80000.size inb_S80000_S80000_0) (fun _ => rfl)

/-! ## The recursions -/

/-- What the `k`-th store of the score positions writes: the half's positions moved to the class. -/
abbrev fillPay (v4 v6 : IVec S16 32) (k : Nat) : IVec S1x16 32 :=
  shapeCast S1x16 (addi (if k % 2 = 0 then v4 else v6) (broadcast S16 (BitVec.ofNat 32 (20000 * (k / 2))))) shapeCasts_S16_S1x16

/-- `n` stores of the score positions from the `k`-th on. -/
def fill (i : grid0.Coords) (v4 v6 : IVec S16 32) : Nat → Nat → TProg (F := F) i PUnit
  | 0, _ => pure ⟨⟩
  | n + 1, k => do
    let _ : Vec F S1x16 .i32 ← Prog.lift (.load fidxV (rect9 k).toLoadRect (View.loadsAt_vmem h_S1x16))
    Prog.lift (.store fidxV (rect9 k) (fillPay v4 v6 k) Finset.univ (View.stores_vmem_bits_univ h_S1x16 rfl) (.inl rfl))
    fill i v4 v6 n (k + 1)

/-- What the `k`-th store of the box positions writes. -/
abbrev boxPay (v4 v6 : IVec S16 32) (k : Nat) : IVec S16 32 :=
  shapeCast S16 (addi (if k % 2 = 0 then v4 else v6) (broadcast S16 (BitVec.ofNat 32 (20000 * (k / 2))))) shapeCasts_S16_S16

/-- `n` stores of the box positions from the `k`-th on. -/
def boxFill (i : grid0.Coords) (v4 v6 : IVec S16 32) : Nat → Nat → TProg (F := F) i PUnit
  | 0, _ => pure ⟨⟩
  | n + 1, k => do
    let _ : Vec F S16 .i32 ← Prog.lift (.load bidxV (rect11 k).toLoadRect (View.loadsAt_vmem h_S16))
    Prog.lift (.store bidxV (rect11 k) (boxPay v4 v6 k) Finset.univ (View.stores_vmem_bits_univ h_S16 rfl) (.inl rfl))
    boxFill i v4 v6 n (k + 1)

/-- `n` gathers of scores from the `r`-th on. -/
def gathers (i : grid0.Coords) : Nat → Nat → TProg (F := F) i PUnit
  | 0, _ => pure ⟨⟩
  | n + 1, r => do
    SparseCore.enqueueIndirectGather rfl scoreAll (scWin r) gathers_S1600000_S128 (fidxRow r) rfl cc0_scratch8.sem (View.wordExact_bits rfl) rfl (Or.inl rfl)
    gathers i n (r + 1)

/-- `n` waits for gathers of scores from the `r`-th on. -/
def waits (i : grid0.Coords) : Nat → Nat → TProg (F := F) i PUnit
  | 0, _ => pure ⟨⟩
  | n + 1, r => do
    SparseCore.waitIndirectGather cc0_scratch8.sem scoreAll (scWin r) (View.wordExact_bits rfl) (View.wordExact_bits rfl)
    waits i n (r + 1)

/-- The best score so far and its class, once class `k`'s scores `x` are seen. -/
abbrev better (mx : FVec F S16 .f32) (x : Vec F S16 .f32) : IVec S16 1 := cmpf .ogt (shapeCast S16 x shapeCasts_S16_S16) mx
@[inherit_doc better] abbrev nextMx (mx : FVec F S16 .f32) (x : Vec F S16 .f32) : FVec F S16 .f32 :=
  select (better mx x) (shapeCast S16 x shapeCasts_S16_S16) mx
@[inherit_doc better] abbrev nextAg (mx : FVec F S16 .f32) (ag : IVec S16 32) (x : Vec F S16 .f32) (k : Nat) : IVec S16 32 :=
  select (better mx x) (broadcast S16 (BitVec.ofNat 32 k)) ag

/-- `n` comparisons from class `k` on, then `f` of the best scores and classes. -/
def compareFrom {α : Type} (i : grid0.Coords) (h : Nat) (f : FVec F S16 .f32 → IVec S16 32 → TProg (F := F) i α) :
    Nat → Nat → FVec F S16 .f32 → IVec S16 32 → TProg (F := F) i α
  | 0, _, mx, ag => f mx ag
  | n + 1, k, mx, ag => do
    let x : Vec F S16 .f32 ← Prog.lift (.load scV (rect10 h k).toLoadRect (View.loadsAt_vmem h_S16))
    compareFrom i h f n (k + 1) (nextMx mx x) (nextAg mx ag x k)

/-- A corner's lower coordinates from a centre and a size. -/
abbrev loPay (y s : Vec F S16 .f32) : FVec F S1x16 .f32 :=
  shapeCast S1x16 (divf (subf (shapeCast S16 y shapeCasts_S16_S16) (mulf (broadcast S16 (Scalar.ofBits .f32 0x3F000000#32)) (shapeCast S16 s shapeCasts_S16_S16)))
    (broadcast S16 (Scalar.ofBits .f32 0x44200000#32))) shapeCasts_S16_S1x16
/-- A corner's upper coordinates. -/
abbrev hiPay (y s : Vec F S16 .f32) : FVec F S1x16 .f32 :=
  shapeCast S1x16 (divf (addf (shapeCast S16 y shapeCasts_S16_S16) (mulf (broadcast S16 (Scalar.ofBits .f32 0x3F000000#32)) (shapeCast S16 s shapeCasts_S16_S16)))
    (broadcast S16 (Scalar.ofBits .f32 0x44200000#32))) shapeCasts_S16_S1x16

/-- Corner `c` of the half `h` stored. -/
def putCorner (i : grid0.Coords) (h c : Nat) (v : FVec F S1x16 .f32) : TProg (F := F) i PUnit := do
  let _ : Vec F S1x16 .f32 ← Prog.lift (.load bbV (rect15 h c).toLoadRect (View.loadsAt_vmem h_S1x16))
  Prog.lift (.store bbV (rect15 h c) v Finset.univ (View.stores_vmem_bits_univ h_S1x16 rfl) (.inl rfl))

/-- What follows the comparisons of a half: the results stored, the boxes read and the corners stored. -/
def finish (i : grid0.Coords) (h : Nat) (mx : FVec F S16 .f32) (ag : IVec S16 32) : TProg (F := F) i PUnit := do
  let _ : Vec F S16 .f32 ← Prog.lift (.load mxV (rect13 h).toLoadRect (View.loadsAt_vmem h_S16))
  Prog.lift (.store mxV (rect13 h) (shapeCast S16 mx shapeCasts_S16_S16 : FVec F S16 .f32) Finset.univ (View.stores_vmem_bits_univ h_S16 rfl) (.inl rfl))
  let _ : Vec F S16 .i32 ← Prog.lift (.load agV (rect13 h).toLoadRect (View.loadsAt_vmem h_S16))
  Prog.lift (.store agV (rect13 h) (shapeCast S16 ag shapeCasts_S16_S16 : IVec S16 32) Finset.univ (View.stores_vmem_bits_univ h_S16 rfl) (.inl rfl))
  let y0 : Vec F S16 .f32 ← Prog.lift (.load bxV (rect12 h 0).toLoadRect (View.loadsAt_vmem h_S16))
  let y1 : Vec F S16 .f32 ← Prog.lift (.load bxV (rect12 h 1).toLoadRect (View.loadsAt_vmem h_S16))
  let s0 : Vec F S16 .f32 ← Prog.lift (.load bxV (rect12 h 2).toLoadRect (View.loadsAt_vmem h_S16))
  let s1 : Vec F S16 .f32 ← Prog.lift (.load bxV (rect12 h 3).toLoadRect (View.loadsAt_vmem h_S16))
  putCorner i h 0 (loPay y0 s0)
  putCorner i h 1 (loPay y1 s1)
  putCorner i h 2 (hiPay y0 s0)
  putCorner i h 3 (hiPay y1 s1)

/-- One half of the tile. -/
def half (i : grid0.Coords) (h : Nat) : TProg (F := F) i PUnit := do
  let x : Vec F S16 .f32 ← Prog.lift (.load scV (rect10 h 0).toLoadRect (View.loadsAt_vmem h_S16))
  compareFrom i h (finish i h) 79 1 (shapeCast S16 x shapeCasts_S16_S16) (broadcast S16 0#32)

/-! ## The copies -/

/-- The tile's window of a row of 1024. -/
abbrev rowRect (i : grid0.Coords) : Rect S1024 := Rect.unit (s := S1024) (k0_off1 i) S32.size (k0_off1_inb i)
/-- The tile's positions in HBM. -/
abbrev idxWin (i : grid0.Coords) : Memref sig .scVector .hbm S32 .i32 := idxHbm.slice (rowRect i) (fun _ => rfl)
/-- The tile's best scores in HBM. -/
abbrev bestWin (i : grid0.Coords) : Memref sig .scVector .hbm S32 .f32 := bestOut.slice (rowRect i) (fun _ => rfl)
/-- The tile's best classes in HBM. -/
abbrev clsWin (i : grid0.Coords) : Memref sig .scVector .hbm S32 .i32 := clsOut.slice (rowRect i) (fun _ => rfl)
/-- Row `c` of the tile's corners. -/
abbrev bbRow (c : Nat) : Memref sig .scVector .vmem S32 .f32 :=
  (bbV.slice (Rect.unit (s := S4x32) ![c % 4, 0] S1x32.size (inb15w c)) (fun _ => rfl)).squeeze S32 squeezes_S1x32_S32
/-- The tile's window of a row of the corners in HBM, from the row's offsets. -/
abbrev bboxWin (off : Fin 2 → Nat) (h : ∀ a, off a + S1x32.size a ≤ S4x1024.size a) : Memref sig .scVector .hbm S32 .f32 :=
  (bboxOut.slice (Rect.unit (s := S4x1024) off S1x32.size h) (fun _ => rfl)).squeeze S32 squeezes_S1x32_S32

/-- A copy of a row of corners out, and its wait. -/
def copyRow (i : grid0.Coords) (c : Nat) (off : Fin 2 → Nat) (h : ∀ a, off a + S1x32.size a ≤ S4x1024.size a) (S : DmaSems sig S_) :
    TProg (F := F) i PUnit := do
  Prog.lift (.enqueueDma (bbRow c) (.here (bboxWin off h)) (.dma S.sem) ((View.wordExact_bits rfl).reshape _ _) ((View.wordExact_bits rfl).reshape _ _) ⟨Or.inl rfl, trivial⟩)
  Prog.lift (.waitDma2 S.sem (bbRow c) (bboxWin off h) ((View.wordExact_bits rfl).reshape _ _) ((View.wordExact_bits rfl).reshape _ _))

/-- The gathers of scores and of boxes, and their waits. -/
def streams (i : grid0.Coords) : TProg (F := F) i PUnit := do
  gathers i 20 0
  SparseCore.enqueueIndirectGather rfl boxAll bxV gathers_S80000_S128 bidxV rfl cc0_scratch8.sem (View.wordExact_bits rfl) rfl (Or.inl rfl)
  waits i 20 0
  SparseCore.waitIndirectGather cc0_scratch8.sem boxAll bxV (View.wordExact_bits rfl) (Memref.isWhole_whole _).wordExact

/-- The copies out. -/
def copies (i : grid0.Coords) : TProg (F := F) i PUnit := do
  Prog.lift (.enqueueDma mxV (.here (bestWin i)) (.dma cc0_scoped1.sem) (Memref.isWhole_whole _).wordExact (View.wordExact_bits rfl) ⟨Or.inl rfl, trivial⟩)
  Prog.lift (.waitDma2 cc0_scoped1.sem mxV (bestWin i) (Memref.isWhole_whole _).wordExact (View.wordExact_bits rfl))
  Prog.lift (.enqueueDma agV (.here (clsWin i)) (.dma cc0_scoped2.sem) (Memref.isWhole_whole _).wordExact (View.wordExact_bits rfl) ⟨Or.inl rfl, trivial⟩)
  Prog.lift (.waitDma2 cc0_scoped2.sem agV (clsWin i) (Memref.isWhole_whole _).wordExact (View.wordExact_bits rfl))
  copyRow i 0 (k0_off2 i) (k0_off2_inb i) cc0_scoped3
  copyRow i 1 (k0_off3 i) (k0_off3_inb i) cc0_scoped4
  copyRow i 2 (k0_off4 i) (k0_off4_inb i) cc0_scoped5
  copyRow i 3 (k0_off5 i) (k0_off5_inb i) cc0_scoped6

/-- The lists filled, from the tile's positions. -/
def lists (i : grid0.Coords) : TProg (F := F) i PUnit := do
  let v3 : Vec F S16 .i32 ← Prog.lift (.load idxV (rect13 0).toLoadRect (View.loadsAt_vmem h_S16))
  let v5 : Vec F S16 .i32 ← Prog.lift (.load idxV (rect13 1).toLoadRect (View.loadsAt_vmem h_S16))
  fill i (shapeCast S16 v3 shapeCasts_S16_S16) (shapeCast S16 v5 shapeCasts_S16_S16) 160 0
  boxFill i (shapeCast S16 v3 shapeCasts_S16_S16) (shapeCast S16 v5 shapeCasts_S16_S16) 8 0

/-- The tile's program. -/
def rolled (i : grid0.Coords) : TProg (F := F) i PUnit := do
  Prog.lift (.enqueueDma (idxWin i) (.here idxV) (.dma cc0_scoped0.sem) (View.wordExact_bits rfl) (Memref.isWhole_whole _).wordExact ⟨Or.inl rfl, trivial⟩)
  Prog.lift (.waitDma2 cc0_scoped0.sem (idxWin i) idxV (View.wordExact_bits rfl) (Memref.isWhole_whole _).wordExact)
  lists i
  streams i
  half i 0
  half i 1
  copies i

end Cert.Kernel.Tile

end
-- ==== Proof.Values.lean ====
/- What the tiles compute, as plain functions of the positions, the scores and the boxes. -/
module

public import proofs.«01_k».proof.Proof.Rolled
public import Idealize.ShloMosaic.Lib.ValueLayout

@[expose] public section

noncomputable section

namespace Cert.Kernel.Tile

open Idealize.ShloMosaic Idealize.SL.Sem Cert.Kernel.Gen

variable {F : FTy → Type} [FloatOps F]

/-- The `k`-th entry of a row of `n`, counted round. -/
def nth {α : Type} {n : ℕ} [NeZero n] (f : (⟨1, ![n]⟩ : Shape).Idx → α) (k : ℕ) : α :=
  f fun a => ⟨k % n, by fin_cases a; exact Nat.mod_lt k (NeZero.pos n)⟩

theorem nth_val {α : Type} {n : ℕ} [NeZero n] (f : (⟨1, ![n]⟩ : Shape).Idx → α) (y : (⟨1, ![n]⟩ : Shape).Idx) :
    nth f (y 0).val = f y := by
  unfold nth; congr 1; funext a; fin_cases a; exact Fin.ext (Nat.mod_eq_of_lt (y 0).isLt)

theorem nth_eq {α : Type} {n : ℕ} [NeZero n] (f : (⟨1, ![n]⟩ : Shape).Idx → α) (y : (⟨1, ![n]⟩ : Shape).Idx) (k : ℕ) (h : (y 0).val = k) :
    f y = nth f k := by rw [← h, nth_val]

/-- The `t`-th position a tile looks up: its entry `t % 32`, moved to the class (or the field) `t / 32`. -/
def posAt (p : ℕ → BitVec 32) (t : ℕ) : BitVec 32 := p (t % 32) + BitVec.ofNat 32 (20000 * (t / 32))

theorem posAt_class (p : ℕ → BitVec 32) (k x : ℕ) (hx : x < 32) : posAt p (32 * k + x) = p x + BitVec.ofNat 32 (20000 * k) := by
  unfold posAt; rw [show (32 * k + x) % 32 = x by omega, show (32 * k + x) / 32 = k by omega]

theorem posAt_toNat (p : ℕ → BitVec 32) (hp : ∀ x, (p x).toNat < 20000) (t : ℕ) (ht : t < 2560) :
    (posAt p t).toNat = (p (t % 32)).toNat + 20000 * (t / 32) := by
  unfold posAt
  have h := hp (t % 32)
  rw [BitVec.toNat_add, BitVec.toNat_ofNat]
  omega

/-- The score positions a tile lists. -/
def fidxOf (p : ℕ → BitVec 32) : S20x128.Idx → BitVec 32 := fun y => posAt p (128 * (y 0).val + (y 1).val)
/-- The box positions a tile lists. -/
def bidxOf (p : ℕ → BitVec 32) : S128.Idx → BitVec 32 := fun y => posAt p (y 0).val
/-- The scores a tile gathers. -/
def scOf (sc : S1600000.Idx → F .f32) (p : ℕ → BitVec 32) : S2560.Idx → F .f32 := fun y => nth sc (posAt p (y 0).val).toNat
/-- The box entries a tile gathers. -/
def bxOf (bx : S80000.Idx → F .f32) (p : ℕ → BitVec 32) : S128.Idx → F .f32 := fun y => nth bx (posAt p (y 0).val).toNat

/-- The best of the scores `s` and its class: `n` scores compared from class `k` on, a later one kept only when greater. -/
def scan (s : ℕ → F .f32) : ℕ → ℕ → F .f32 → BitVec 32 → F .f32 × BitVec 32
  | 0, _, m, a => (m, a)
  | n + 1, k, m, a =>
    scan s n (k + 1) (Scalar.select (FloatOps.cmpf .ogt (s k) m) (s k) m) (Scalar.select (FloatOps.cmpf .ogt (s k) m) (BitVec.ofNat 32 k) a)

/-- The best score of 80 and its class. -/
def best (s : ℕ → F .f32) : F .f32 × BitVec 32 := scan s 79 1 (s 0) 0#32

/-- A corner's lower coordinate from a centre and a size. -/
def lo (y s : F .f32) : F .f32 :=
  FloatOps.divf (FloatOps.subf y (FloatOps.mulf (Scalar.ofBits .f32 0x3F000000#32) s)) (Scalar.ofBits .f32 0x44200000#32)
/-- A corner's upper coordinate from a centre and a size. -/
def hi (y s : F .f32) : F .f32 :=
  FloatOps.divf (FloatOps.addf y (FloatOps.mulf (Scalar.ofBits .f32 0x3F000000#32) s)) (Scalar.ofBits .f32 0x44200000#32)

/-- The scores of position `v`, by class. -/
def scoresAt (sc : S1600000.Idx → F .f32) (v : BitVec 32) (k : ℕ) : F .f32 := nth sc (v + BitVec.ofNat 32 (20000 * k)).toNat
/-- The box of position `v`, by field. -/
def boxAt (bx : S80000.Idx → F .f32) (v : BitVec 32) (k : ℕ) : F .f32 := nth bx (v + BitVec.ofNat 32 (20000 * k)).toNat

/-- Corner `c` of a box given by its fields. -/
def corner (b : ℕ → F .f32) (c : ℕ) : F .f32 :=
  if c < 2 then lo (b c) (b (c + 2)) else hi (b (c - 2)) (b c)

/-- The best scores of the positions `p`. -/
def bestOf (sc : S1600000.Idx → F .f32) (p : ℕ → BitVec 32) : S32.Idx → F .f32 := fun y => (best (scoresAt sc (p (y 0).val))).1
/-- The best classes of the positions `p`. -/
def clsOf (sc : S1600000.Idx → F .f32) (p : ℕ → BitVec 32) : S32.Idx → BitVec 32 := fun y => (best (scoresAt sc (p (y 0).val))).2
/-- The corners of the positions `p`. -/
def bbOf (bx : S80000.Idx → F .f32) (p : ℕ → BitVec 32) : S4x32.Idx → F .f32 := fun y => corner (boxAt bx (p (y 1).val)) (y 0).val

/-- The best scores of all positions. -/
def bestAll (ix : S1024.Idx → BitVec 32) (sc : S1600000.Idx → F .f32) : S1024.Idx → F .f32 := fun y => (best (scoresAt sc (ix y))).1
/-- The best classes of all positions. -/
def clsAll (ix : S1024.Idx → BitVec 32) (sc : S1600000.Idx → F .f32) : S1024.Idx → BitVec 32 := fun y => (best (scoresAt sc (ix y))).2
/-- The corners of all positions. -/
def bbAll (ix : S1024.Idx → BitVec 32) (bx : S80000.Idx → F .f32) : S4x1024.Idx → F .f32 :=
  fun y => corner (boxAt bx (nth ix (y 1).val)) (y 0).val

/-! ## Casts between a row of sixteen and its one-row block -/

theorem cast16 {α : Type} (x : S16.Idx → α) (y : S16.Idx) : shapeCast S16 x shapeCasts_S16_S16 y = x y :=
  shapeCast_apply x shapeCasts_S16_S16 _ _ rfl

theorem cast16_eq {α : Type} (x : S16.Idx → α) : shapeCast S16 x shapeCasts_S16_S16 = x := funext (cast16 x)

theorem cast1x16 {α : Type} (x : S16.Idx → α) (y : S1x16.Idx) : shapeCast S1x16 x shapeCasts_S16_S1x16 y = nth (n := 16) x (y 1).val :=
  (shapeCast_apply x shapeCasts_S16_S1x16 y (fun a => ⟨(y 1).val, by fin_cases a; exact (y 1).isLt⟩) (by
    have h0 : (y 0).val = 0 := by have h := (y 0).isLt; change (y 0).val < 1 at h; omega
    rw [Shape.rowMajor_val_two, Shape.rowMajor_val_one]
    show (y 1).val = (y 0).val * 16 + (y 1).val
    omega)).trans (nth_eq (n := 16) x _ _ rfl)

end Cert.Kernel.Tile

end
-- ==== Proof.StreamBatch.lean ====
/- Several indirect gathers in flight on one semaphore: every row of every gather is one transfer of a batch on the
   semaphore's counter (Lib/Batch.lean), so the gathers are issued one after another, their waits consume the batch's
   units, and the deliveries are collected once all units are consumed. -/
module

public import Idealize.ShloMosaic.Lib.Batch
public import Idealize.ShloMosaic.Lib.SparseCore.Stream

@[expose] public section

noncomputable section

namespace Cert.StreamBatch

open Idealize.ShloMosaic Idealize.SL
open Idealize.SL.BI (sProp Storable bigSep bigSep_insert)
open scoped Idealize.SL.BI
open Idealize.SL.BI.BIBase Idealize.SL.BI.Laws Idealize.SL.Sem Idealize.SL.ProofMode
open Idealize.SL.RA
open Transfers SparseCore

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- The rights pending from `k` on are the next `o` and those pending from `k + o`. -/
theorem pending_split {n : ℕ} (Φ : Fin n → sProp 𝕄) : ∀ (o k : ℕ) (h : k + o ≤ n),
    bigSep (pending k) Φ = iprop((bigSep Finset.univ fun j : Fin o => Φ ⟨k + j.val, by omega⟩) ∗ bigSep (pending (k + o)) Φ)
  | 0, k, _ => by
    rw [show (Finset.univ : Finset (Fin 0)) = ∅ from rfl, BI.bigSep_empty]
    exact (BI.equiv_iff.mp BI.emp_sep).symm
  | o + 1, k, h => by
    rw [bigSep_pending_step Φ k (by omega), pending_split Φ o (k + 1) (by omega), bigSep_univ_succ]
    have e1 : (fun j : Fin o => Φ ⟨k + 1 + j.val, by omega⟩) = fun j : Fin o => Φ ⟨k + j.succ.val, by have := j.succ.isLt; omega⟩ := by
      funext j; congr 2; simp; omega
    rw [e1, show k + 1 + o = k + (o + 1) by omega]
    exact (BI.equiv_iff.mp ⟨BI.sep_assoc, BI.sep_assoc'⟩).symm

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- What row `j` of a gather delivers: the destination's row written with the source's row the list names, the list's
    entry, and a piece of the source's share. -/
def rowBack (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
        ((dst.view.slice (s.rowRect hg.axis' j)).write (Elt F) fd (fun i => src.view.read (Elt F) fs (hg.rowIdx (r j) i)) Finset.univ))
      ∗ (offs.view.loc c ↦[{offs.view.emb (si.rowMajor.symm (j.cast hn.symm))}]{qo} fo))
    ∗ (src.view.loc c ↦[src.view.set]{pieceOf q _ ho j} fs))

/-- All rows' deliveries: the destination written with the gather's payload, and both shares back. -/
theorem rowBack_all (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    bigSep Finset.univ (rowBack c src dst hg offs hn ho q qo fs fd fo r)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) : sProp 𝕄) := by
  unfold rowBack
  iintro H
  ihave H1 := Transfers.bigSep_sep_out _ _ _ $$ H
  icases H1 with ⟨H2, Hsrc⟩
  ihave H3 := Transfers.bigSep_sep_out _ _ _ $$ H2
  icases H3 with ⟨Hrows, Hlist⟩
  isplitl [Hrows]
  · have e : bigSep Finset.univ (fun j : Fin (s.size hg.axis') => (dst.view.loc c ↦[(dst.view.slice (s.rowRect hg.axis' j)).set]{fullShare}
        ((dst.view.slice (s.rowRect hg.axis' j)).write (Elt F) fd (fun i => src.view.read (Elt F) fs (hg.rowIdx (r j) i)) Finset.univ) : sProp 𝕄)) ⊢
        (dst.view.loc c ↦[dst.view.set]{fullShare} (dst.view.write (Elt F) fd (gatherPayload hg (src.view.read (Elt F) fs) r) Finset.univ) : sProp 𝕄) :=
      pointsTo_rows_write c dst.view hg.axis' fd (fun j i => src.view.read (Elt F) fs (hg.rowIdx (r j) i))
        (gatherPayload hg (src.view.read (Elt F) fs) r) fun j i => by unfold gatherPayload; rw [Shape.Gathers.idx_rowRect_emb]
    iapply e $$ Hrows
  isplitl [Hsrc]
  · iapply (Entails.of_eq (pointsTo_piecesOf src.view.set fs ho q).symm) $$ Hsrc
  · iapply (Entails.of_eq (pointsTo_entries c offs.view (fun j => si.rowMajor.symm (j.cast hn.symm))
      (si.rowMajor.symm.bijective.comp (finCongr hn.symm).bijective) qo fo).symm) $$ Hlist

/-- An indirect gather issued into a batch: its rows are the batch's next transfers, each of the batch's unit `N`. -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {D : Fin n → sProp 𝕄} {j₀ u : ℕ} (ι : Ix) (N : ℕ) (ho : 0 < s.size hg.axis')
    (hN : ∀ j, (dst.slice (s.rowRect hg.axis' j) (s.stride_rowRect hg.axis' j)).view.dmaCredit = N)
    (hj : j₀ + s.size hg.axis' ≤ n) (hu : u ≤ j₀ * N)
    (hin : ∀ x, (offs.view.read (Elt F) fo x).toNat < s₀.size hg.axis)
    (hD : ∀ j : Fin (s.size hg.axis'), rowBack c src dst hg offs hn ho q qo fs fd fo (rows (offs.view.read (Elt F) fo) hn hin) j ⊢ D ⟨j₀ + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j₀ u)
      ⊢ iprop((Batch EC c (.dma sem) ι N D (j₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  have hA : S.RowsAgree := by
    intro j x x' ρ ρ' h h'
    obtain ⟨_, _, rfl⟩ := Option.map_eq_some_iff.mp h
    obtain ⟨_, _, rfl⟩ := Option.map_eq_some_iff.mp h'
    rfl
  have hrow : ∀ j, S.row j (S.word fo j) = some (gatherRow (F := F) c src dst hg sem hsrc he hsp hr j (r j)) := fun j => by
    change (rowOf (s₀.size hg.axis) (offs.view.read (Elt F) fo (S.entry j))).map _ = _
    rw [rowOf_of_lt (hin _)]; rfl
  have htot : ∑ j, (gatherRow (F := F) c src dst hg sem hsrc he hsp hr j (r j)).dst.view.dmaCredit = s.size hg.axis' * N := by
    rw [Finset.sum_congr rfl fun j _ => hN j]; simp
  unfold Batch
  iintro ⟨Hs, Hd, Ho, ⟨%γ, %γ₀, %κ, #Hinv, HI, H0, Hcred⟩⟩ Hk
  ihave Hd' := (Entails.of_eq (pointsTo_rows c dst.view hg.axis' fullShare fd)) $$ Hd
  ihave Ho' := (Entails.of_eq (pointsTo_entries c offs.view S.entry (si.rowMajor.symm.bijective.comp (finCongr hn.symm).bijective) qo fo)) $$ Ho
  ihave Hs' := (Entails.of_eq (pointsTo_piecesOf (src.view.set) fs ho q)) $$ Hs
  ihave HI' := (Entails.of_eq (pending_split (fun t => count EC (γ t) 0) _ _ hj)) $$ HI
  icases HI' with ⟨Hγ, HI⟩
  iapply (wp_enqueueIndirectDma 𝒱 c bd Set.univ (qo := qo) (fo := fo) ι _ hA hrow htot) $$ [Hd' Ho' Hs' Hγ]
  · have hres : ∀ j : Fin (s.size hg.axis'), iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨j₀ + j.val, by omega⟩) 0))
        ⊢ iprop(S.heldEntry qo fo j ∗ (S.heldEntry qo fo j -∗ rowRes c (gatherRow (F := F) c src dst hg sem hsrc he hsp hr j (r j)))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (gatherRow (F := F) c src dst hg sem hsrc he hsp hr j (r j)).dst.view.amount (.dma sem) = N from hN j]
        iapply (batch_creditUpdate EC ⟨j₀ + j.val, by omega⟩ (hD j))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hres j)
    isplitr; · iexact Hinv
    iexact H3
  iintro Hnew
  iapply Hk
  iexists γ, γ₀, κ
  isplitr; · iexact Hinv
  isplitl [HI]; · iexact HI
  isplitl [H0]; · iexact H0
  rw [show (j₀ + s.size hg.axis') * N - u = (j₀ * N - u) + s.size hg.axis' * N by rw [Nat.add_mul]; omega, ← tallyAt_add]
  icombine Hcred Hnew as H
  iexact H

end Cert.StreamBatch

end
-- ==== Proof.Base.lean ====
/- The set-up the tile's proof and the launch's share: the program as the launch theorem sees it, the ghost state, a tile's
   thread, and what one store into a whole buffer leaves. -/
module

public import proofs.«01_k».proof.Proof.Values
public import proofs.«01_k».proof.Proof.StreamBatch
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel.Gen

variable {F : FTy → Type} [FloatOps F]

/-- The labels the launch theorem sees. -/
abbrev ΛP : Labels := Pipeline.Sig Λ₀ (Fin 0) fun p => (pcfgs (F := F) p).Adm
/-- The one SparseCore call. -/
abbrev K : SparseCore.Cfg τ sig (ΛP (F := F)) 1 := sc (F := F)
/-- The definitions the launch theorem sees. -/
abbrev D : Defs nD τ sig (Elt F) (ΛP (F := F)) := Pipeline.defs pcfgs defs₀
@[inherit_doc D] abbrev 𝒱₀ : Variants := Variants.none
@[inherit_doc D] abbrev 𝒱 : Variants := 𝒱₀.lift
@[inherit_doc D] abbrev v₀ : 𝒱.V := Sum.inl none

theorem nSub_zero : (K (F := F)).nSub 0 = 16 := rfl
theorem nCore_zero : (K (F := F)).nCore 0 = 2 := rfl

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The handshakes' rounds and the transfers' counters. -/
abbrev UU : Type := UH × Counters

local notation "𝕄" => MT nD τ sig (HIx 1) (Elt F) ℕ UU ℕ

/-- Where the handshakes' rounds live. -/
abbrev EH : Emb UH (MT nD τ sig (HIx 1) (Elt F) ℕ UU ℕ) := embL

/-- The SparseCore of the tile at coordinates `i`. -/
abbrev cV (i : grid0.Coords) : Fin τ.nSC := (i 0).castLE hcore0
/-- The subcore of the tile at coordinates `i`. -/
abbrev jV (i : grid0.Coords) : Fin τ.nSub := (i 1).castLE hsub0
/-- The thread of the tile at coordinates `i`. -/
abbrev tile (d : Dev nD) (i : grid0.Coords) : Thread nD τ := V d (cV i) (jV i)

/-- The precondition of a tile's program. -/
abbrev wpT (d : Dev nD) (i : grid0.Coords) {α : Type} (p : TProg (F := F) i α) (Q : α → sProp 𝕄) : sProp 𝕄 :=
  wp frame (wpE (defs₀ (F := F)) 𝒱₀ (tile d i) none) Set.univ p Q

omit [FloatOps F] in
/-- A store into a whole buffer of a payload that agrees with `G` leaves `G` in the rectangle and the rest as it was. -/
theorem write_agree {κ : Kind} (b : Ref sig κ) (r : Rect b.ty.shape) (f G : b.ty.Contents (Elt F)) (w : r.shape.Idx → Elt F b.ty.elt)
    (hw : ∀ x, w x = G (r.emb x)) (y : b.ty.shape.Idx) :
    ((Memref.whole b : Memref sig κ _ _ _).access r).write (Elt F) f w Finset.univ y = if y ∈ r.set then G y else f y := by
  by_cases hy : y ∈ r.set
  · rw [if_pos hy]
    rw [← r.map_emb_univ] at hy
    obtain ⟨x, -, rfl⟩ := Finset.mem_map.mp hy
    exact (View.write_emb_of_mem (v := (Memref.whole b : Memref sig κ _ _ _).access r) f w (Finset.mem_univ x)).trans (hw x)
  · rw [if_neg hy]
    refine View.write_of_not_mem (v := (Memref.whole b : Memref sig κ _ _ _).access r) f w Finset.univ ?_
    rwa [show ((Memref.whole b : Memref sig κ _ _ _).access r).setOn Finset.univ = r.set from View.set_slice_whole b r]

end Cert.Kernel.Tile

end
-- ==== Proof.Streams.lean ====
/- The gathers: 20 windows of scores and one of boxes in flight on one semaphore, then their waits. -/
module

public import proofs.«01_k».proof.Proof.Base

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

open Cert.StreamBatch Idealize.ShloMosaic.Transfers Idealize.ShloMosaic.SparseCore

variable (d : Dev nD) (i : grid0.Coords)

/-- The units a row of a gather credits. -/
abbrev unit : ℕ := 32

theorem dim_pos : 0 < S128.size gathers_S1600000_S128.axis' := by decide
theorem dim_pos' : 0 < S128.size gathers_S80000_S128.axis' := by decide

theorem set_scoreAll : scoreAll.view.set = Finset.univ := by
  rw [show scoreAll.view = (View.whole (main_v3_scv : Ref sig .scVector)).slice (Rect.unit (s := S1600000) ![0] S1600000.size inb_S1600000_S1600000_0) from rfl,
    View.set_slice_whole]
  exact Rect.set_eq_univ_of_whole _ fun a => ⟨by fin_cases a; rfl, rfl, rfl⟩
theorem set_boxAll : boxAll.view.set = Finset.univ := by
  rw [show boxAll.view = (View.whole (main_v4_scv : Ref sig .scVector)).slice (Rect.unit (s := S80000) ![0] S80000.size inb_S80000_S80000_0) from rfl,
    View.set_slice_whole]
  exact Rect.set_eq_univ_of_whole _ fun a => ⟨by fin_cases a; rfl, rfl, rfl⟩

/-! ## What the lists hold, read through their rows -/

/-- Entry `x` of row `r` of the score positions. -/
theorem read_fidxRow (p : ℕ → BitVec 32) (r : ℕ) (hr : r < 20) (x : S128.Idx) :
    (fidxRow r).view.read (Elt F) (fidxOf p) x = posAt p (128 * r + (x 0).val) := by
  have hx : (x 0).val < 128 := (x 0).isLt
  have e : Shape.reshapeEquiv (squeezes_S1x128_S128.numel_eq) x = (fun a => ⟨![0, (x 0).val] a, by fin_cases a; exacts [Nat.one_pos, hx]⟩ : S1x128.Idx) :=
    Shape.reshapeEquiv_eq_of_rowMajor _ (by
      rw [Shape.rowMajor_val_two, Shape.rowMajor_val_one]
      show 0 * 128 + (x 0).val = (x 0).val
      omega)
  show fidxOf p ((Rect.unit (s := S20x128) ![r % 20, 0] S1x128.size (inb9w r)).emb (Shape.reshapeEquiv (squeezes_S1x128_S128.numel_eq) x)) = _
  rw [e]
  unfold fidxOf
  congr 1
  show 128 * (r % 20 + 1 * 0) + (0 + 1 * (x 0).val) = _
  omega

theorem fidxRow_lt (p : ℕ → BitVec 32) (hp : ∀ x, (p x).toNat < 20000) (r : ℕ) (hr : r < 20) (x : S128.Idx) :
    ((fidxRow r).view.read (Elt F) (fidxOf p) x).toNat < S1600000.size gathers_S1600000_S128.axis := by
  have hx : (x 0).val < 128 := (x 0).isLt
  rw [read_fidxRow p r hr x, posAt_toNat p hp _ (by omega)]
  have h := hp ((128 * r + (x 0).val) % 32)
  show _ < 1600000
  omega

theorem bidx_lt (p : ℕ → BitVec 32) (hp : ∀ x, (p x).toNat < 20000) (x : S128.Idx) :
    (bidxV.view.read (Elt F) (bidxOf p) x).toNat < S80000.size gathers_S80000_S128.axis := by
  have hx : (x 0).val < 128 := (x 0).isLt
  show (posAt p (x 0).val).toNat < 80000
  rw [posAt_toNat p hp _ (by omega)]
  have h := hp ((x 0).val % 32)
  omega

/-! ## The deliveries -/

section Family

variable (p : ℕ → BitVec 32) (hp : ∀ x, (p x).toNat < 20000) (qs qb : PosShare TreeShare)
variable (fs : Buf (Elt F) (scoreHbm.view.loc (tile d i))) (fb : Buf (Elt F) (boxHbm.view.loc (tile d i)))
variable (f10 : Buf (Elt F) (scV.view.loc (tile d i))) (f12 : Buf (Elt F) (bxV.view.loc (tile d i)))

/-- What row `j` of the `r`-th gather of scores delivers. -/
def scBack (r : Fin 20) (j : Fin 128) : sProp 𝕄 :=
  rowBack (tile d i) scoreAll (scWin r.val) gathers_S1600000_S128 (fidxRow r.val) rfl dim_pos (pieceOf qs 20 (by decide) r) fullShare
    fs f10 (fidxOf p) (rows ((fidxRow r.val).view.read (Elt F) (fidxOf p)) rfl (fidxRow_lt p hp r.val r.isLt)) j

/-- What row `j` of the gather of boxes delivers. -/
def bxBack (j : Fin 128) : sProp 𝕄 :=
  rowBack (tile d i) boxAll bxV gathers_S80000_S128 bidxV rfl dim_pos' qb fullShare fb f12 (bidxOf p)
    (rows (bidxV.view.read (Elt F) (bidxOf p)) rfl (bidx_lt p hp)) j

/-- What the batch's `t`-th transfer delivers: row `t % 128` of gather `t / 128`. -/
def backs (t : Fin 2688) : sProp 𝕄 :=
  if h : t.val < 2560 then scBack d i p hp qs fs f10 ⟨t.val / 128, by omega⟩ ⟨t.val % 128, by omega⟩
  else bxBack d i p hp qb fb f12 ⟨t.val - 2560, by omega⟩

instance backs_storable (t : Fin 2688) : Storable (upEmb : UEmb _ 𝕄) (backs d i p hp qs qb fs fb f10 f12 t) := by
  unfold backs; split
  · unfold scBack rowBack; infer_instance
  · unfold bxBack rowBack; infer_instance

theorem backs_score (r : Fin 20) (j : Fin 128) (h : 128 * r.val + j.val < 2688) :
    backs d i p hp qs qb fs fb f10 f12 ⟨128 * r.val + j.val, h⟩ = scBack d i p hp qs fs f10 r j := by
  unfold backs
  rw [dif_pos (show 128 * r.val + j.val < 2560 by omega)]
  congr 1
  · exact Fin.ext (show (128 * r.val + j.val) / 128 = r.val by omega)
  · exact Fin.ext (show (128 * r.val + j.val) % 128 = j.val by omega)

theorem backs_box (j : Fin 128) (h : 2560 + j.val < 2688) :
    backs d i p hp qs qb fs fb f10 f12 ⟨2560 + j.val, h⟩ = bxBack d i p hp qb fb f12 j := by
  unfold backs
  rw [dif_neg (show ¬ 2560 + j.val < 2560 by omega)]
  have e : (⟨2560 + j.val - 2560, by omega⟩ : Fin 128) = j := Fin.ext (Nat.add_sub_cancel_left _ _)
  exact congrArg _ e

/-- The batch of all the gathers' rows. -/
abbrev inFlight (j u : ℕ) : sProp 𝕄 :=
  Batch countersEmb (tile d i) (.dma cc0_scratch8.sem) (default : HIx 1) unit (backs d i p hp qs qb fs fb f10 f12) j u

/-- What the `r`-th gather of scores is issued from: a piece of the scores' share, its window and its row of positions. -/
def scHeld (r : Fin 20) : sProp 𝕄 :=
  iprop((scoreAll.view.loc (tile d i) ↦[scoreAll.view.set]{pieceOf qs 20 (by decide) r} fs)
    ∗ ((scWin r.val).view.loc (tile d i) ↦[(scWin r.val).view.set]{fullShare} f10)
    ∗ ((fidxRow r.val).view.loc (tile d i) ↦[(fidxRow r.val).view.set]{fullShare} (fidxOf p)))

theorem gathers_succ {α : Type} (C : PUnit → TProg (F := F) i α) (n r : ℕ) :
    (gathers i (n + 1) r >>= C : TProg (F := F) i α)
      = (SparseCore.enqueueIndirectGather rfl scoreAll (scWin r) gathers_S1600000_S128 (fidxRow r) rfl cc0_scratch8.sem (View.wordExact_bits rfl) rfl (Or.inl rfl) (by decide)
          >>= fun _ => (gathers i n (r + 1) >>= C)) := rfl

end Family

end Cert.Kernel.Tile

end
-- ==== Proof.StreamsRun.lean ====
/- The gathers issued, waited for and collected: the scores and the boxes of the tile, gathered. -/
module

public import proofs.«01_k».proof.Proof.Streams

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

open Cert.StreamBatch Idealize.ShloMosaic.Transfers Idealize.ShloMosaic.SparseCore

variable (d : Dev nD) (i : grid0.Coords)

section Family

variable (p : ℕ → BitVec 32) (hp : ∀ x, (p x).toNat < 20000) (qs qb : PosShare TreeShare)
variable (fs : Buf (Elt F) (scoreHbm.view.loc (tile d i))) (fb : Buf (Elt F) (boxHbm.view.loc (tile d i)))
variable (f10 : Buf (Elt F) (scV.view.loc (tile d i))) (f12 : Buf (Elt F) (bxV.view.loc (tile d i)))

theorem score_in (r : ℕ) (hr : r < 20) (j : Fin 128) (h : 128 * r + j.val < 2688) :
    rowBack (tile d i) scoreAll (scWin r) gathers_S1600000_S128 (fidxRow r) rfl dim_pos (pieceOf qs 20 (by decide) ⟨r, hr⟩) fullShare
      fs f10 (fidxOf p) (rows ((fidxRow r).view.read (Elt F) (fidxOf p)) rfl (fidxRow_lt p hp r hr)) j
    ⊢ backs d i p hp qs qb fs fb f10 f12 ⟨128 * r + j.val, h⟩ :=
  Entails.of_eq (backs_score d i p hp qs qb fs fb f10 f12 ⟨r, hr⟩ j h).symm

theorem box_in (j : Fin 128) (h : 2560 + j.val < 2688) :
    rowBack (tile d i) boxAll bxV gathers_S80000_S128 bidxV rfl dim_pos' qb fullShare fb f12 (bidxOf p)
      (rows (bidxV.view.read (Elt F) (bidxOf p)) rfl (bidx_lt p hp)) j
    ⊢ backs d i p hp qs qb fs fb f10 f12 ⟨2560 + j.val, h⟩ :=
  Entails.of_eq (backs_box d i p hp qs qb fs fb f10 f12 j h).symm

/-- The gathers of scores from the `r`-th on, issued. -/
theorem wp_gathers {α : Type} (C : PUnit → TProg (F := F) i α) (Q : α → sProp 𝕄) :
    ∀ (n r : ℕ) (_ : r + n = 20),
      iprop(bigSep (pending (n := 20) r) (scHeld d i p qs fs f10) ∗ inFlight d i p hp qs qb fs fb f10 f12 (128 * r) 0)
        ⊢ iprop((inFlight d i p hp qs qb fs fb f10 f12 2560 0 -∗ wpT d i (C ⟨⟩) Q) -∗ wpT d i (gathers i n r >>= C) Q)
  | 0, r, hr => by
    obtain rfl : r = 20 := by omega
    iintro ⟨-, HB⟩ HC
    iapply HC $$ HB
  | n + 1, r, hr => by
    rw [gathers_succ, bigSep_pending_step _ r (by omega)]
    unfold scHeld
    iintro ⟨⟨⟨Hs, Hd, Ho⟩, Hrest⟩, HB⟩ HC
    iapply (wp_gatherBatch countersEmb 𝒱₀ (tile d i) none (src := scoreAll) (dst := scWin r) (hg := gathers_S1600000_S128) (offs := fidxRow r)
      (q := pieceOf qs 20 (by decide) ⟨r, by omega⟩) (qo := fullShare) (fs := fs) (fd := f10) (fo := fidxOf p) (D := backs d i p hp qs qb fs fb f10 f12)
      (j₀ := 128 * r) (u := 0) (default : HIx 1) unit dim_pos (fun _ => rfl)
      (show 128 * r + 128 ≤ 2688 by omega) (Nat.zero_le _) (fidxRow_lt p hp r (by omega)) (fun j => score_in d i p hp qs qb fs fb f10 f12 r (by omega) j _))
      $$ [Hs Hd Ho HB]
    · isplitl [Hs]; · iexact Hs
      isplitl [Hd]; · iexact Hd
      isplitl [Ho]; · iexact Ho
      iexact HB
    iintro HB
    iapply (wp_gathers C Q n (r + 1) (by omega)) $$ [Hrest HB]
    · isplitl [Hrest]
      · unfold scHeld; iexact Hrest
      · iexact HB
    iexact HC

/-- The waits for the gathers of scores from the `r`-th on. -/
theorem wp_waits {α : Type} (C : PUnit → TProg (F := F) i α) (Q : α → sProp 𝕄) (O : CellTallies nD τ sig (HIx 1)) (W₀ : Waits sig (HIx 1)) :
    ∀ (n r : ℕ) (_ : r + n = 20) (W : Waits sig (HIx 1)) (_ : ∀ w ∈ W, w ∈ W₀ ∨ w.2 = none),
      iprop(Transfers.MayWaits (tile d i) (default : HIx 1) O ∗ inFlight d i p hp qs qb fs fb f10 f12 2688 (r * (128 * unit)) ∗ owes (tile d i) O W)
        ⊢ iprop((∀ W', ⌜∀ w ∈ W', w ∈ W₀ ∨ w.2 = none⌝ -∗ inFlight d i p hp qs qb fs fb f10 f12 2688 (20 * (128 * unit)) -∗ owes (tile d i) O W' -∗ wpT d i (C ⟨⟩) Q)
          -∗ wpT d i (waits i n r >>= C) Q)
  | 0, r, hr, W, hW => by
    obtain rfl : r = 20 := by omega
    iintro ⟨-, HB, HO⟩ HC
    iapply HC $$ %W [] HB HO
    ipureintro; exact hW
  | n + 1, r, hr, W, hW => by
    rw [show (waits i (n + 1) r >>= C : TProg (F := F) i α) = .op (.waitDma2 cc0_scratch8.sem scoreAll (scWin r) (View.wordExact_bits rfl) (View.wordExact_bits rfl))
      fun _ => (waits i n (r + 1) >>= C) from rfl]
    iintro ⟨#Hmw, HB, HO⟩ HC
    iapply (wp_waitBatchMulO countersEmb 𝒱₀ (tile d i) none (default : HIx 1) (N := unit) 128 (rfl : (scWin r).view.dmaCredit = _)
      (show r * (128 * unit) + 128 * unit ≤ unit * 2688 by unfold unit; omega)) $$ [HB HO]
    · isplitl [HB]; · iexact HB
      isplitl [HO]; · iexact HO
      iapply (Transfers.MayWaits.elim (SemLoc.dma cc0_scratch8.sem)) $$ Hmw
    iintro ⟨HB, HO⟩
    iapply (wp_waits C Q O W₀ n (r + 1) (by omega) (insert (SemLoc.dma cc0_scratch8.sem, (default : HIx 1)) W) ?_) $$ [HB HO]
    · intro w hw
      rcases Finset.mem_insert.mp hw with hw | hw
      · subst hw; exact .inr rfl
      · exact hW w hw
    · isplitr; · iexact Hmw
      isplitl [HB]
      · rw [show (r + 1) * (128 * unit) = r * (128 * unit) + 128 * unit from Nat.succ_mul r (128 * unit)]; iexact HB
      · iexact HO
    iexact HC

/-! ## Windows and rows, split and joined -/

theorem set_scWin (r : ℕ) : (scWin r).view.set = (Rect.unit (s := S2560) ![128 * (r % 20)] S128.size (inb10w r)).set :=
  View.set_slice_whole (cc0_scratch2 : Ref sig .scVector) _

theorem set_fidxRow (r : ℕ) : (fidxRow r).view.set = (Rect.unit (s := S20x128) ![r % 20, 0] S1x128.size (inb9w r)).set :=
  (View.set_reshape _ _).trans (View.set_slice_whole (cc0_scratch1 : Ref sig .scVector) _)

theorem scWin_split (f : Buf (Elt F) (scV.view.loc (tile d i))) :
    (scV.view.loc (tile d i) ↦{fullShare} f : sProp 𝕄)
      = bigSep Finset.univ fun r : Fin 20 => (scWin r.val).view.loc (tile d i) ↦[(scWin r.val).view.set]{fullShare} f := by
  have cover : (Finset.univ.biUnion (β := S2560.Idx) fun r : Fin 20 => (scWin r.val).view.set) = Finset.univ := by
    refine Finset.eq_univ_of_forall fun y => Finset.mem_biUnion.mpr ?_
    have hy : (y 0).val < 2560 := (y 0).isLt
    refine ⟨⟨(y 0).val / 128, by omega⟩, Finset.mem_univ _, ?_⟩
    rw [set_scWin, Rect.mem_set_unit, Fin.forall_fin_one]
    show 128 * ((y 0).val / 128 % 20) ≤ (y 0).val ∧ (y 0).val < 128 * ((y 0).val / 128 % 20) + 128
    omega
  have disjoint : ∀ r ∈ Finset.univ, ∀ r' ∈ Finset.univ, r ≠ r' → Disjoint (scWin (r : Fin 20).val).view.set (scWin (r' : Fin 20).val).view.set := by
    intro r _ r' _ h
    rw [set_scWin, set_scWin]
    refine Rect.unit_disjoint 0 ?_
    show 128 * (r.val % 20) + 128 ≤ 128 * (r'.val % 20) ∨ 128 * (r'.val % 20) + 128 ≤ 128 * (r.val % 20)
    have := Fin.val_ne_of_ne h; omega
  rw [← pointsTo_biUnion Finset.univ (ℓ := scV.view.loc (tile d i)) (fun r : Fin 20 => (scWin r.val).view.set) disjoint, cover]

theorem fidxRow_split (f : Buf (Elt F) (fidxV.view.loc (tile d i))) :
    (fidxV.view.loc (tile d i) ↦{fullShare} f : sProp 𝕄)
      = bigSep Finset.univ fun r : Fin 20 => (fidxRow r.val).view.loc (tile d i) ↦[(fidxRow r.val).view.set]{fullShare} f := by
  have cover : (Finset.univ.biUnion (β := S20x128.Idx) fun r : Fin 20 => (fidxRow r.val).view.set) = Finset.univ := by
    refine Finset.eq_univ_of_forall fun y => Finset.mem_biUnion.mpr ?_
    have h0 : (y 0).val < 20 := (y 0).isLt
    have h1 : (y 1).val < 128 := (y 1).isLt
    refine ⟨⟨(y 0).val, h0⟩, Finset.mem_univ _, ?_⟩
    rw [set_fidxRow, Rect.mem_set_unit, Fin.forall_fin_two]
    show ((y 0).val % 20 ≤ (y 0).val ∧ (y 0).val < (y 0).val % 20 + 1) ∧ (0 ≤ (y 1).val ∧ (y 1).val < 0 + 128)
    omega
  have disjoint : ∀ r ∈ Finset.univ, ∀ r' ∈ Finset.univ, r ≠ r' → Disjoint (fidxRow (r : Fin 20).val).view.set (fidxRow (r' : Fin 20).val).view.set := by
    intro r _ r' _ h
    rw [set_fidxRow, set_fidxRow]
    refine Rect.unit_disjoint 0 ?_
    show r.val % 20 + 1 ≤ r'.val % 20 ∨ r'.val % 20 + 1 ≤ r.val % 20
    have := Fin.val_ne_of_ne h; omega
  rw [← pointsTo_biUnion Finset.univ (ℓ := fidxV.view.loc (tile d i)) (fun r : Fin 20 => (fidxRow r.val).view.set) disjoint, cover]

/-- All the gathers of scores hold, before or after, is the scores' share, the scores' buffer and the positions' buffer. -/
theorem scHeld_all (f : Buf (Elt F) (scV.view.loc (tile d i))) :
    (bigSep Finset.univ (scHeld d i p qs fs f) : sProp 𝕄)
      = iprop((scoreHbm.view.loc (tile d i) ↦{qs} fs) ∗ (scV.view.loc (tile d i) ↦{fullShare} f) ∗ (fidxV.view.loc (tile d i) ↦{fullShare} (fidxOf p))) := by
  rw [scWin_split, fidxRow_split, pointsTo_piecesOf Finset.univ fs (show 0 < 20 by decide) qs]
  have e : scHeld d i p qs fs f = fun r : Fin 20 => (iprop((scoreHbm.view.loc (tile d i) ↦{pieceOf qs 20 (by decide) r} fs)
    ∗ ((scWin r.val).view.loc (tile d i) ↦[(scWin r.val).view.set]{fullShare} f)
    ∗ ((fidxRow r.val).view.loc (tile d i) ↦[(fidxRow r.val).view.set]{fullShare} (fidxOf p))) : sProp 𝕄) := by
    funext r; unfold scHeld; rw [set_scoreAll]
  rw [e, bigSep_sep', bigSep_sep']

/-! ## What the gathers leave -/

theorem rowMajor_symm_val (k : Fin S128.numel) : ((S128.rowMajor.symm k) 0).val = k.val := by
  have h := Shape.rowMajor_val_one (S128.rowMajor.symm k)
  rw [Equiv.apply_symm_apply] at h
  exact h.symm

/-- What the `r`-th gather of scores writes is the scores at the positions its row lists. -/
theorem score_landed (r : ℕ) (hr : r < 20) (y : S2560.Idx) (hy : y ∈ (scWin r).view.set) :
    (scWin r).view.write (Elt F) f10 (gatherPayload gathers_S1600000_S128 (scoreAll.view.read (Elt F) fs)
      (rows ((fidxRow r).view.read (Elt F) (fidxOf p)) rfl (fidxRow_lt p hp r hr))) Finset.univ y = scOf fs p y := by
  obtain ⟨x, -, rfl⟩ := Finset.mem_map.mp hy
  refine (View.write_emb_of_mem (v := (scWin r).view) f10 _ (Finset.mem_univ x)).trans ?_
  show fs ((Rect.unit (s := S1600000) ![0] S1600000.size inb_S1600000_S1600000_0).emb (gathers_S1600000_S128.idx _ x)) = _
  refine nth_eq (n := 1600000) fs _ _ ?_
  show 0 + 1 * (gathers_S1600000_S128.idx _ x gathers_S1600000_S128.axis).val = _
  rw [Shape.Gathers.idx_axis, Nat.zero_add, Nat.one_mul]
  show ((fidxRow r).view.read (Elt F) (fidxOf p) _).toNat = (posAt p (128 * (r % 20) + 1 * (x 0).val)).toNat
  rw [read_fidxRow p r hr, rowMajor_symm_val]
  congr 2
  show 128 * r + (x 0).val = _
  omega

/-- What the gather of boxes writes is the box entries at the positions listed. -/
theorem box_landed (y : S128.Idx) :
    bxV.view.write (Elt F) f12 (gatherPayload gathers_S80000_S128 (boxAll.view.read (Elt F) fb)
      (rows (bidxV.view.read (Elt F) (bidxOf p)) rfl (bidx_lt p hp))) Finset.univ y = bxOf fb p y := by
  refine (View.write_emb_of_mem (v := bxV.view) f12 _ (Finset.mem_univ y)).trans ?_
  show fb ((Rect.unit (s := S80000) ![0] S80000.size inb_S80000_S80000_0).emb (gathers_S80000_S128.idx _ y)) = _
  refine nth_eq (n := 80000) fb _ _ ?_
  show 0 + 1 * (gathers_S80000_S128.idx _ y gathers_S80000_S128.axis).val = _
  rw [Shape.Gathers.idx_axis, Nat.zero_add, Nat.one_mul]
  show (posAt p ((S128.rowMajor.symm _) 0).val).toNat = (posAt p (y 0).val).toNat
  rw [rowMajor_symm_val]
  rfl

/-- The deliveries from the `r`-th gather of scores on, collected. -/
theorem collect_scores : ∀ (n r : ℕ) (_ : r + n = 20),
    bigSep (pending (128 * r)) (backs d i p hp qs qb fs fb f10 f12)
      ⊢ (iprop(bigSep (pending (n := 20) r) (scHeld d i p qs fs (scOf fs p)) ∗ bigSep (pending 2560) (backs d i p hp qs qb fs fb f10 f12)) : sProp 𝕄)
  | 0, r, hr => by
    obtain rfl : r = 20 := by omega
    rw [show (pending (n := 20) 20) = ∅ by decide, BI.bigSep_empty]
    iintro H
    isplitr; · iempintro
    iexact H
  | n + 1, r, hr => by
    rw [pending_split (backs d i p hp qs qb fs fb f10 f12) 128 (128 * r) (by omega), bigSep_pending_step _ r (by omega)]
    have e : (bigSep Finset.univ fun j : Fin 128 => backs d i p hp qs qb fs fb f10 f12 ⟨128 * r + j.val, by omega⟩)
        ⊢ (scHeld d i p qs fs (scOf fs p) ⟨r, by omega⟩ : sProp 𝕄) := by
      rw [show (fun j : Fin 128 => backs d i p hp qs qb fs fb f10 f12 ⟨128 * r + j.val, by omega⟩) = scBack d i p hp qs fs f10 ⟨r, by omega⟩ from
        funext fun j => backs_score d i p hp qs qb fs fb f10 f12 ⟨r, by omega⟩ j _]
      refine (rowBack_all (tile d i) scoreAll (scWin r) gathers_S1600000_S128 (fidxRow r) rfl dim_pos _ _ fs f10 (fidxOf p) _).trans ?_
      rw [pointsTo_congr (fun y hy => score_landed d i p hp fs f10 r (by omega) y hy)]
      unfold scHeld
      iintro ⟨Hd, Hs, Ho⟩
      isplitl [Hs]; · iexact Hs
      isplitl [Hd]; · iexact Hd
      iexact Ho
    have e2 := collect_scores n (r + 1) (by omega)
    iintro ⟨H, Hrest⟩
    ihave H1 := e $$ H
    ihave H2 := e2 $$ Hrest
    icases H2 with ⟨H2, H3⟩
    isplitr [H3]
    · isplitl [H1]; · iexact H1
      iexact H2
    iexact H3

/-- The delivery of the gather of boxes. -/
theorem collect_boxes :
    bigSep (pending 2560) (backs d i p hp qs qb fs fb f10 f12)
      ⊢ (iprop((bxV.view.loc (tile d i) ↦{fullShare} (bxOf fb p)) ∗ (boxHbm.view.loc (tile d i) ↦{qb} fb) ∗ (bidxV.view.loc (tile d i) ↦{fullShare} (bidxOf p))) : sProp 𝕄) := by
  rw [pending_split (backs d i p hp qs qb fs fb f10 f12) 128 2560 (by omega),
    show (fun j : Fin 128 => backs d i p hp qs qb fs fb f10 f12 ⟨2560 + j.val, by omega⟩) = bxBack d i p hp qb fb f12 from
      funext fun j => backs_box d i p hp qs qb fs fb f10 f12 j _]
  have e : (bigSep Finset.univ (bxBack d i p hp qb fb f12)) ⊢ _ :=
    rowBack_all (tile d i) boxAll bxV gathers_S80000_S128 bidxV rfl dim_pos' qb fullShare fb f12 (bidxOf p) (rows (bidxV.view.read (Elt F) (bidxOf p)) rfl (bidx_lt p hp))
  rw [pointsTo_congr (fun y _ => box_landed d i p hp fb f12 y), set_boxAll, (Memref.isWhole_whole _).set_eq_univ, (Memref.isWhole_whole _).set_eq_univ] at e
  exact (show _ from by iintro ⟨H, -⟩; iapply e $$ H)

end Family

end Cert.Kernel.Tile

end
-- ==== Proof.StreamsWhole.lean ====
/- The gathers as one step: the scores and the boxes a tile needs, gathered by the positions its lists hold. -/
module

public import proofs.«01_k».proof.Proof.StreamsRun

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

open Cert.StreamBatch Idealize.ShloMosaic.Transfers Idealize.ShloMosaic.SparseCore

variable (d : Dev nD) (i : grid0.Coords)

/-- The gathers and their waits: the scores and the boxes at the listed positions land, and all that was held comes back. -/
theorem wp_streams (p : ℕ → BitVec 32) (hp : ∀ x, (p x).toNat < 20000) (qs qb : PosShare TreeShare)
    (fs : Buf (Elt F) (scoreHbm.view.loc (tile d i))) (fb : Buf (Elt F) (boxHbm.view.loc (tile d i)))
    (f10 : Buf (Elt F) (scV.view.loc (tile d i))) (f12 : Buf (Elt F) (bxV.view.loc (tile d i)))
    {α : Type} (C : PUnit → TProg (F := F) i α) (Q : α → sProp 𝕄) (O : CellTallies nD τ sig (HIx 1)) (W : Waits sig (HIx 1)) :
    iprop(Transfers.MayWaits (tile d i) (default : HIx 1) O
        ∗ ((scoreHbm.view.loc (tile d i) ↦{qs} fs) ∗ (scV.view.loc (tile d i) ↦{fullShare} f10) ∗ (fidxV.view.loc (tile d i) ↦{fullShare} (fidxOf p)))
        ∗ ((bxV.view.loc (tile d i) ↦{fullShare} f12) ∗ (boxHbm.view.loc (tile d i) ↦{qb} fb) ∗ (bidxV.view.loc (tile d i) ↦{fullShare} (bidxOf p)))
        ∗ semVal (tile d i, .dma cc0_scratch8.sem) 0 ∗ owes (tile d i) O W)
      ⊢ iprop((∀ W', ⌜∀ w ∈ W', w ∈ W ∨ w.2 = none⌝
            -∗ ((scoreHbm.view.loc (tile d i) ↦{qs} fs) ∗ (scV.view.loc (tile d i) ↦{fullShare} (scOf fs p)) ∗ (fidxV.view.loc (tile d i) ↦{fullShare} (fidxOf p)))
            -∗ ((bxV.view.loc (tile d i) ↦{fullShare} (bxOf fb p)) ∗ (boxHbm.view.loc (tile d i) ↦{qb} fb) ∗ (bidxV.view.loc (tile d i) ↦{fullShare} (bidxOf p)))
            -∗ semVal (tile d i, .dma cc0_scratch8.sem) 0 -∗ owes (tile d i) O W' -∗ wpT d i (C ⟨⟩) Q)
          -∗ wpT d i (streams i >>= C) Q) := by
  have ealloc : (semVal (tile d i, .dma cc0_scratch8.sem) 0 : sProp 𝕄) ⊢ |={Set.univ}=> inFlight d i p hp qs qb fs fb f10 f12 0 0 :=
    batch_alloc' countersEmb (tile d i) (default : HIx 1) unit (backs d i p hp qs qb fs fb f10 f12)
  have ecollect : inFlight d i p hp qs qb fs fb f10 f12 2688 (unit * 2688)
      ⊢ (|={Set.univ}=> iprop(bigSep Finset.univ (backs d i p hp qs qb fs fb f10 f12) ∗ semVal (tile d i, .dma cc0_scratch8.sem) 0) : sProp 𝕄) :=
    batch_collect' countersEmb (tile d i) (show 0 < unit by decide)
  have es := collect_scores d i p hp qs qb fs fb f10 f12 20 0 rfl
  rw [show 128 * 0 = 0 from rfl, show (pending (n := 2688) 0) = Finset.univ from pending_zero, show (pending (n := 20) 0) = Finset.univ from pending_zero, scHeld_all] at es
  have eb := collect_boxes d i p hp qs qb fs fb f10 f12
  rw [← scHeld_all d i p qs fs f10]
  rw [show (streams i >>= C : TProg (F := F) i α) = gathers i 20 0 >>= fun _ =>
      SparseCore.enqueueIndirectGather rfl boxAll bxV gathers_S80000_S128 bidxV rfl cc0_scratch8.sem (View.wordExact_bits rfl) rfl (Or.inl rfl) (by decide)
        >>= fun _ => waits i 20 0 >>= fun _ => .op (.waitDma2 cc0_scratch8.sem boxAll bxV (View.wordExact_bits rfl) (Memref.isWhole_whole _).wordExact) fun _ => C ⟨⟩ from by
    unfold streams; simp only [Prog.bind_assoc]; rfl]
  iintro ⟨#Hmw, Hsc, ⟨Hd, Hb, Ho⟩, Hv, HO⟩ HC
  imod ealloc $$ Hv with HB
  iapply (wp_gathers d i p hp qs qb fs fb f10 f12 _ Q 20 0 rfl) $$ [Hsc HB]
  · rw [show (pending (n := 20) 0) = Finset.univ from pending_zero]
    isplitl [Hsc]; · iexact Hsc
    iexact HB
  iintro HB
  iapply (wp_gatherBatch countersEmb 𝒱₀ (tile d i) none (src := boxAll) (dst := bxV) (hg := gathers_S80000_S128) (offs := bidxV)
    (q := qb) (qo := fullShare) (fs := fb) (fd := f12) (fo := bidxOf p) (D := backs d i p hp qs qb fs fb f10 f12)
    (j₀ := 2560) (u := 0) (default : HIx 1) unit dim_pos' (fun _ => rfl)
    (show 2560 + 128 ≤ 2688 by omega) (Nat.zero_le _) (bidx_lt p hp) (fun j => box_in d i p hp qs qb fs fb f10 f12 j _))
    $$ [Hd Hb Ho HB]
  · rw [set_boxAll, (Memref.isWhole_whole (cc0_scratch4 : Ref sig .scVector)).set_eq_univ, (Memref.isWhole_whole (cc0_scratch3 : Ref sig .scVector)).set_eq_univ]
    isplitl [Hb]; · iexact Hb
    isplitl [Hd]; · iexact Hd
    isplitl [Ho]; · iexact Ho
    iexact HB
  iintro HB
  iapply (wp_waits d i p hp qs qb fs fb f10 f12 _ Q O W 20 0 rfl W (fun _ h => .inl h)) $$ [HB HO]
  · isplitr; · iexact Hmw
    rw [Nat.zero_mul]
    isplitl [HB]; · iexact HB
    iexact HO
  iintro %W' %hW' HB HO
  iapply (wp_waitBatchMulO countersEmb 𝒱₀ (tile d i) none (default : HIx 1) (N := unit) 128 (rfl : bxV.view.dmaCredit = _)
    (show 20 * (128 * unit) + 128 * unit ≤ unit * 2688 by unfold unit; omega)) $$ [HB HO]
  · isplitl [HB]; · iexact HB
    isplitl [HO]; · iexact HO
    iapply (Transfers.MayWaits.elim (SemLoc.dma cc0_scratch8.sem)) $$ Hmw
  iintro ⟨HB, HO⟩
  rw [show 20 * (128 * unit) + 128 * unit = unit * 2688 from by unfold unit; omega]
  imod ecollect $$ HB with ⟨HD, Hv⟩
  ihave H1 := es $$ HD
  icases H1 with ⟨Hsc, Hrest⟩
  ihave Hbx := eb $$ Hrest
  iapply HC $$ %(insert (SemLoc.dma cc0_scratch8.sem, (default : HIx 1)) W') [] Hsc Hbx Hv HO
  ipureintro
  intro w hw
  rcases Finset.mem_insert.mp hw with hw | hw
  · subst hw; exact .inr rfl
  · exact hW' w hw

end Cert.Kernel.Tile

end
-- ==== Proof.Own.lean ====
/- A tile's own semaphores and buffers: those it uses, and the rest. -/
module

public import proofs.«01_k».proof.Proof.Base

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

open Idealize.ShloMosaic.SparseCore.Cfg (ownBufs ownSems0 ownCells ownRefs mem_ownCells mem_ownRefs mem_ownRefs_of_owner)

/-! ## A tile's own semaphores and buffers -/

/-- Listed members taken out of a separating conjunction over a set. -/
theorem bigSep_list {I : Type} [DecidableEq I] (Φ : I → sProp 𝕄) : ∀ (l : List I) (s : Finset I) (_ : l.Nodup) (_ : ∀ a ∈ l, a ∈ s),
    bigSep s Φ = l.foldr (fun a P => iprop(Φ a ∗ P)) (bigSep (s \ l.toFinset) Φ)
  | [], s, _, _ => by rw [List.toFinset_nil, Finset.sdiff_empty]; rfl
  | a :: l, s, hnd, hs => by
    rw [SparseCore.bigSep_erase' (hs a List.mem_cons_self), bigSep_list Φ l (s.erase a) (List.nodup_cons.mp hnd).2
      (fun b hb => Finset.mem_erase.mpr ⟨fun e => (List.nodup_cons.mp hnd).1 (e ▸ hb), hs b (List.mem_cons_of_mem _ hb)⟩)]
    rw [show s.erase a \ l.toFinset = s \ (a :: l).toFinset from by
      ext b; simp only [Finset.mem_sdiff, Finset.mem_erase, List.toFinset_cons, Finset.mem_insert, not_or]; tauto]
    rfl

variable (d : Dev nD) (i : grid0.Coords)

/-- The semaphores a tile uses. -/
abbrev semList : List (SemLoc sig) :=
  [.dma cc0_scratch8.sem, .dma cc0_scoped0.sem, .dma cc0_scoped1.sem, .dma cc0_scoped2.sem, .dma cc0_scoped3.sem, .dma cc0_scoped4.sem,
    .dma cc0_scoped5.sem, .dma cc0_scoped6.sem]
/-- The buffers a tile uses. -/
abbrev refList : List (Ref sig .scVector) :=
  [cc0_scratch0, cc0_scratch1, cc0_scratch2, cc0_scratch3, cc0_scratch4, cc0_scratch5, cc0_scratch6, cc0_scratch7]

/-- A tile's other semaphores. -/
abbrev semRest : sProp 𝕄 := bigSep (ownCells (tile d i) \ (semList.map fun s => ((tile d i, s) : GSem nD τ sig)).toFinset) fun g => semVal g 0
/-- A tile's other buffers. -/
abbrev refRest : sProp 𝕄 :=
  bigSep (ownRefs (τ := τ) (.scVector (cV i) (jV i)) \ (refList.map fun b => (Proc.scVector (cV i) (jV i)).devRef b).toFinset)
    fun b => iprop(∃ f, ((d, b) : Loc nD τ sig) ↦{fullShare} f)

theorem semList_nodup : semList.Nodup := by decide +kernel
theorem semList_scoped : ∀ s ∈ semList, s.isScoped .scVector = true := by decide +kernel
theorem refList_nodup : refList.Nodup := by decide +kernel
theorem refList_local : ∀ b ∈ refList, b.space = .vmem := by decide +kernel

theorem refList_owner : ∀ b ∈ refList, (Proc.scVector (cV i) (jV i)).devRef b ∈ ownRefs (τ := τ) (.scVector (cV i) (jV i)) := by
  intro b hb
  simp only [List.mem_cons, List.not_mem_nil, or_false] at hb
  rcases hb with h | h | h | h | h | h | h | h <;> rw [h] <;> exact mem_ownRefs_of_owner rfl

theorem ownSems_eq : (ownSems0 (tile d i) : sProp 𝕄)
    = iprop(semVal (tile d i, .dma cc0_scratch8.sem) 0 ∗ semVal (tile d i, .dma cc0_scoped0.sem) 0 ∗ semVal (tile d i, .dma cc0_scoped1.sem) 0
        ∗ semVal (tile d i, .dma cc0_scoped2.sem) 0 ∗ semVal (tile d i, .dma cc0_scoped3.sem) 0 ∗ semVal (tile d i, .dma cc0_scoped4.sem) 0
        ∗ semVal (tile d i, .dma cc0_scoped5.sem) 0 ∗ semVal (tile d i, .dma cc0_scoped6.sem) 0 ∗ semRest d i) := by
  unfold SparseCore.Cfg.ownSems0
  refine (bigSep_list (fun g : GSem nD τ sig => (semVal g 0 : sProp 𝕄)) (semList.map fun s => ((tile d i, s) : GSem nD τ sig)) _ ?_ ?_).trans rfl
  · exact List.Nodup.map (fun a b h => (Prod.mk.inj h).2) semList_nodup
  · intro g hg
    obtain ⟨s, hs, rfl⟩ := List.mem_map.mp hg
    exact (mem_ownCells (thr := tile d i) (g := (tile d i, s))).mpr ⟨rfl, semList_scoped s hs⟩

set_option maxHeartbeats 2000000 in
theorem ownBufs_eq : (ownBufs (tile d i) : sProp 𝕄)
    = iprop((∃ f, idxV.view.loc (tile d i) ↦{fullShare} f) ∗ (∃ f, fidxV.view.loc (tile d i) ↦{fullShare} f) ∗ (∃ f, scV.view.loc (tile d i) ↦{fullShare} f)
        ∗ (∃ f, bidxV.view.loc (tile d i) ↦{fullShare} f) ∗ (∃ f, bxV.view.loc (tile d i) ↦{fullShare} f) ∗ (∃ f, mxV.view.loc (tile d i) ↦{fullShare} f)
        ∗ (∃ f, agV.view.loc (tile d i) ↦{fullShare} f) ∗ (∃ f, bbV.view.loc (tile d i) ↦{fullShare} f) ∗ refRest d i) := by
  unfold SparseCore.Cfg.ownBufs
  refine (bigSep_list (fun b : DevRef τ sig => (iprop(∃ f, ((d, b) : Loc nD τ sig) ↦{fullShare} f) : sProp 𝕄))
    (refList.map fun b => (Proc.scVector (cV i) (jV i)).devRef b) _ ?_ ?_).trans rfl
  · exact List.Nodup.map (Proc.devRef_injective _) refList_nodup
  · intro g hg
    obtain ⟨b, hb, rfl⟩ := List.mem_map.mp hg
    exact refList_owner i b hb

end Cert.Kernel.Tile

end
-- ==== Proof.Lists.lean ====
/- The tile fills its two lists of positions. -/
module

public import proofs.«01_k».proof.Proof.Base

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

variable (d : Dev nD) (i : grid0.Coords)

/-- The halves of a tile's positions, and the positions they hold. -/
structure Halves (v4 v6 : IVec S16 32) (p : ℕ → BitVec 32) : Prop where
  fst : ∀ y : S16.Idx, v4 y = p (y 0).val
  snd : ∀ y : S16.Idx, v6 y = p (16 + (y 0).val)

/-- Entry `x` of the `k`-th store's payload is the position listed `16 * k + x`-th. -/
theorem pay_eq {v4 v6 : IVec S16 32} {p : ℕ → BitVec 32} (hv : Halves v4 v6 p) (k : ℕ) (y : S16.Idx) :
    addi (if k % 2 = 0 then v4 else v6) (broadcast S16 (BitVec.ofNat 32 (20000 * (k / 2)))) y = posAt p (16 * k + (y 0).val) := by
  have hy : (y 0).val < 16 := (y 0).isLt
  show (if k % 2 = 0 then v4 else v6) y + BitVec.ofNat 32 (20000 * (k / 2)) = _
  unfold posAt
  rw [show (16 * k + (y 0).val) / 32 = k / 2 by omega]
  split
  · rw [hv.fst]; congr 2; omega
  · rw [hv.snd]; congr 2; omega

theorem fillPay_eq {v4 v6 : IVec S16 32} {p : ℕ → BitVec 32} (hv : Halves v4 v6 p) (k : ℕ) (hk : k < 160) (x : S1x16.Idx) :
    fillPay v4 v6 k x = fidxOf p ((rect9 k).emb x) := by
  have h0 : (x 0).val = 0 := by have h := (x 0).isLt; change (x 0).val < 1 at h; omega
  have h1 : (x 1).val < 16 := (x 1).isLt
  have e0 : (((rect9 k).emb x) 0).val = k / 8 % 20 + 1 * (x 0).val := rfl
  have e1 : (((rect9 k).emb x) 1).val = 16 * (k % 8) + 1 * (x 1).val := rfl
  unfold fillPay fidxOf
  rw [cast1x16, e0, e1]
  unfold nth
  rw [pay_eq hv]
  congr 1
  show 16 * k + (x 1).val % 16 = _
  omega

theorem boxPay_eq {v4 v6 : IVec S16 32} {p : ℕ → BitVec 32} (hv : Halves v4 v6 p) (k : ℕ) (hk : k < 8) (x : S16.Idx) :
    boxPay v4 v6 k x = bidxOf p ((rect11 k).emb x) := by
  have e0 : (((rect11 k).emb x) 0).val = 16 * (k % 8) + 1 * (x 0).val := rfl
  unfold boxPay bidxOf
  rw [cast16, pay_eq hv, e0]
  congr 1; omega

theorem mem_rect9 (k : ℕ) (hk : k < 160) (y : S20x128.Idx) : y ∈ (rect9 k).set ↔ 8 * (y 0).val + (y 1).val / 16 = k := by
  have h1 : (y 1).val < 128 := (y 1).isLt
  rw [Rect.mem_set_unit, Fin.forall_fin_two]
  show (k / 8 % 20 ≤ (y 0).val ∧ (y 0).val < k / 8 % 20 + 1) ∧ (16 * (k % 8) ≤ (y 1).val ∧ (y 1).val < 16 * (k % 8) + 16) ↔ _
  omega

theorem mem_rect11 (k : ℕ) (hk : k < 8) (y : S128.Idx) : y ∈ (rect11 k).set ↔ (y 0).val / 16 = k := by
  rw [Rect.mem_set_unit, Fin.forall_fin_one]
  show (16 * (k % 8) ≤ (y 0).val ∧ (y 0).val < 16 * (k % 8) + 16) ↔ _
  omega

theorem fill_succ {α : Type} (v4 v6 : IVec S16 32) (C : PUnit → TProg (F := F) i α) (n k : ℕ) :
    (fill i v4 v6 (n + 1) k >>= C : TProg (F := F) i α) = .op (.load fidxV (rect9 k).toLoadRect (View.loadsAt_vmem h_S1x16)) fun _ =>
      .op (.store fidxV (rect9 k) (fillPay v4 v6 k) Finset.univ (View.stores_vmem_bits_univ h_S1x16 rfl) (.inl rfl)) fun _ => (fill i v4 v6 n (k + 1) >>= C) := rfl

/-- The stores of the score positions, from any state that has the first `k`. -/
theorem wp_fill {α : Type} {v4 v6 : IVec S16 32} {p : ℕ → BitVec 32} (hv : Halves v4 v6 p) (C : PUnit → TProg (F := F) i α) (Q : α → sProp 𝕄) :
    ∀ (n k : ℕ) (_ : k + n ≤ 160) (f : Buf (Elt F) (fidxV.view.loc (tile d i)))
      (_ : ∀ y : S20x128.Idx, 8 * (y 0).val + (y 1).val / 16 < k → f y = fidxOf p y),
      (fidxV.view.loc (tile d i) ↦{fullShare} f)
        ⊢ iprop((∀ f' : Buf (Elt F) (fidxV.view.loc (tile d i)), ⌜∀ y : S20x128.Idx, 8 * (y 0).val + (y 1).val / 16 < k + n → f' y = fidxOf p y⌝
            -∗ (fidxV.view.loc (tile d i) ↦{fullShare} f') -∗ wpT d i (C ⟨⟩) Q)
          -∗ wpT d i (fill i v4 v6 n k >>= C) Q)
  | 0, k, _, f, hf => by
    iintro Hf HC
    iapply HC $$ %f [] Hf
    ipureintro; exact hf
  | n + 1, k, hk, f, hf => by
    rw [fill_succ]
    iintro Hf HC
    iapply (wp_load_rect 𝒱₀ (tile d i) none Set.univ (m := fidxV) (r := rect9 k) (S := Finset.univ) (Finset.subset_univ _)) $$ Hf
    iintro Hf
    iapply (wp_store 𝒱₀ (tile d i) none Set.univ (m := fidxV) (r := rect9 k) (S := Finset.univ) (Finset.subset_univ _)) $$ Hf
    iintro Hf
    iapply (wp_fill hv C Q n (k + 1) (by omega) _ ?_) $$ Hf
    · intro y hy
      refine (write_agree cc0_scratch1 (rect9 k) f (fidxOf p) _ (fillPay_eq hv k (by omega)) y).trans ?_
      split
      · rfl
      · rename_i hn; rw [mem_rect9 k (by omega)] at hn; exact hf y (by omega)
    rw [show k + 1 + n = k + (n + 1) by omega]
    iexact HC

theorem boxFill_succ {α : Type} (v4 v6 : IVec S16 32) (C : PUnit → TProg (F := F) i α) (n k : ℕ) :
    (boxFill i v4 v6 (n + 1) k >>= C : TProg (F := F) i α) = .op (.load bidxV (rect11 k).toLoadRect (View.loadsAt_vmem h_S16)) fun _ =>
      .op (.store bidxV (rect11 k) (boxPay v4 v6 k) Finset.univ (View.stores_vmem_bits_univ h_S16 rfl) (.inl rfl)) fun _ => (boxFill i v4 v6 n (k + 1) >>= C) := rfl

/-- The stores of the box positions, from any state that has the first `k`. -/
theorem wp_boxFill {α : Type} {v4 v6 : IVec S16 32} {p : ℕ → BitVec 32} (hv : Halves v4 v6 p) (C : PUnit → TProg (F := F) i α) (Q : α → sProp 𝕄) :
    ∀ (n k : ℕ) (_ : k + n ≤ 8) (f : Buf (Elt F) (bidxV.view.loc (tile d i)))
      (_ : ∀ y : S128.Idx, (y 0).val / 16 < k → f y = bidxOf p y),
      (bidxV.view.loc (tile d i) ↦{fullShare} f)
        ⊢ iprop((∀ f' : Buf (Elt F) (bidxV.view.loc (tile d i)), ⌜∀ y : S128.Idx, (y 0).val / 16 < k + n → f' y = bidxOf p y⌝
            -∗ (bidxV.view.loc (tile d i) ↦{fullShare} f') -∗ wpT d i (C ⟨⟩) Q)
          -∗ wpT d i (boxFill i v4 v6 n k >>= C) Q)
  | 0, k, _, f, hf => by
    iintro Hf HC
    iapply HC $$ %f [] Hf
    ipureintro; exact hf
  | n + 1, k, hk, f, hf => by
    rw [boxFill_succ]
    iintro Hf HC
    iapply (wp_load_rect 𝒱₀ (tile d i) none Set.univ (m := bidxV) (r := rect11 k) (S := Finset.univ) (Finset.subset_univ _)) $$ Hf
    iintro Hf
    iapply (wp_store 𝒱₀ (tile d i) none Set.univ (m := bidxV) (r := rect11 k) (S := Finset.univ) (Finset.subset_univ _)) $$ Hf
    iintro Hf
    iapply (wp_boxFill hv C Q n (k + 1) (by omega) _ ?_) $$ Hf
    · intro y hy
      refine (write_agree cc0_scratch3 (rect11 k) f (bidxOf p) _ (boxPay_eq hv k (by omega)) y).trans ?_
      split
      · rfl
      · rename_i hn; rw [mem_rect11 k (by omega)] at hn; exact hf y (by omega)
    rw [show k + 1 + n = k + (n + 1) by omega]
    iexact HC

/-- The lists filled, from a tile's positions `pf`. -/
theorem wp_lists {α : Type} (pf : Buf (Elt F) (idxV.view.loc (tile d i))) (f9 : Buf (Elt F) (fidxV.view.loc (tile d i)))
    (f11 : Buf (Elt F) (bidxV.view.loc (tile d i))) (C : PUnit → TProg (F := F) i α) (Q : α → sProp 𝕄) :
    iprop((idxV.view.loc (tile d i) ↦{fullShare} pf) ∗ (fidxV.view.loc (tile d i) ↦{fullShare} f9) ∗ (bidxV.view.loc (tile d i) ↦{fullShare} f11))
      ⊢ iprop(((idxV.view.loc (tile d i) ↦{fullShare} pf) -∗ (fidxV.view.loc (tile d i) ↦{fullShare} (fidxOf (nth (n := 32) pf)))
          -∗ (bidxV.view.loc (tile d i) ↦{fullShare} (bidxOf (nth (n := 32) pf))) -∗ wpT d i (C ⟨⟩) Q)
        -∗ wpT d i (lists i >>= C) Q) := by
  rw [show (lists i >>= C : TProg (F := F) i α) = .op (.load idxV (rect13 0).toLoadRect (View.loadsAt_vmem h_S16)) fun v3 =>
    .op (.load idxV (rect13 1).toLoadRect (View.loadsAt_vmem h_S16)) fun v5 =>
      (fill i (shapeCast S16 v3 shapeCasts_S16_S16) (shapeCast S16 v5 shapeCasts_S16_S16) 160 0 >>= fun _ =>
        boxFill i (shapeCast S16 v3 shapeCasts_S16_S16) (shapeCast S16 v5 shapeCasts_S16_S16) 8 0 >>= C) from by
      simp only [lists, Prog.bind_assoc]; rfl]
  iintro ⟨Hp, H9, H11⟩ HC
  iapply (wp_load_rect 𝒱₀ (tile d i) none Set.univ (m := idxV) (r := rect13 0) (S := Finset.univ) (Finset.subset_univ _)) $$ Hp
  iintro Hp
  iapply (wp_load_rect 𝒱₀ (tile d i) none Set.univ (m := idxV) (r := rect13 1) (S := Finset.univ) (Finset.subset_univ _)) $$ Hp
  iintro Hp
  have hv : Halves (shapeCast S16 ((idxV.access (rect13 0)).read (Elt F) pf) shapeCasts_S16_S16)
      (shapeCast S16 ((idxV.access (rect13 1)).read (Elt F) pf) shapeCasts_S16_S16) (nth (n := 32) pf) := by
    constructor <;> intro y <;> rw [cast16] <;> refine nth_eq (n := 32) pf _ _ ?_
    · show 0 + 1 * (y 0).val = _; omega
    · show 16 + 1 * (y 0).val = _; omega
  iapply (wp_fill d i hv _ Q 160 0 (by omega) f9 (fun y h => absurd h (Nat.not_lt_zero _))) $$ H9
  iintro %f9' %h9 H9
  iapply (wp_boxFill d i hv _ Q 8 0 (by omega) f11 (fun y h => absurd h (Nat.not_lt_zero _))) $$ H11
  iintro %f11' %h11 H11
  have e9 : f9' = fidxOf (nth (n := 32) pf) := funext fun y => h9 y (by
    have h0 : (y 0).val < 20 := (y 0).isLt
    have h1 : (y 1).val < 128 := (y 1).isLt
    omega)
  have e11 : f11' = bidxOf (nth (n := 32) pf) := funext fun y => h11 y (by
    have h0 : (y 0).val < 128 := (y 0).isLt
    omega)
  subst e9 e11
  iapply HC $$ Hp H9 H11

end Cert.Kernel.Tile

end
-- ==== Proof.Half.lean ====
/- One half of a tile: the running best over the classes, and the results stored. -/
module

public import proofs.«01_k».proof.Proof.Base

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

variable (d : Dev nD) (i : grid0.Coords)
variable (sc : S1600000.Idx → F .f32) (bx : S80000.Idx → F .f32) (p : ℕ → BitVec 32)

/-! ## What the loads read -/

theorem read_class (h k : ℕ) (hk : k < 80) :
    (scV.access (rect10 h k)).read (Elt F) (scOf sc p) = fun y => scoresAt sc (p (16 * (h % 2) + (y 0).val)) k := by
  funext y
  have hy : (y 0).val < 16 := (y 0).isLt
  show nth sc (posAt p (32 * (k % 80) + 16 * (h % 2) + 1 * (y 0).val)).toNat = _
  rw [show 32 * (k % 80) + 16 * (h % 2) + 1 * (y 0).val = 32 * k + (16 * (h % 2) + (y 0).val) by omega, posAt_class p k _ (by omega)]
  rfl

theorem read_field (h c : ℕ) (hc : c < 4) :
    (bxV.access (rect12 h c)).read (Elt F) (bxOf bx p) = fun y => boxAt bx (p (16 * (h % 2) + (y 0).val)) c := by
  funext y
  have hy : (y 0).val < 16 := (y 0).isLt
  show nth bx (posAt p (32 * (c % 4) + 16 * (h % 2) + 1 * (y 0).val)).toNat = _
  rw [show 32 * (c % 4) + 16 * (h % 2) + 1 * (y 0).val = 32 * c + (16 * (h % 2) + (y 0).val) by omega, posAt_class p c _ (by omega)]
  rfl

/-! ## The comparisons -/

theorem compareFrom_succ {α β : Type} (h : ℕ) (f : FVec F S16 .f32 → IVec S16 32 → TProg (F := F) i α) (C : α → TProg (F := F) i β) (n k : ℕ)
    (mx : FVec F S16 .f32) (ag : IVec S16 32) :
    (compareFrom i h f (n + 1) k mx ag >>= C : TProg (F := F) i β)
      = .op (.load scV (rect10 h k).toLoadRect (View.loadsAt_vmem h_S16)) fun x => (compareFrom i h f n (k + 1) (nextMx mx x) (nextAg mx ag x k) >>= C) := rfl

/-- The comparisons from class `k` on leave the best score and class of each position. -/
theorem wp_compare {α β : Type} (h : ℕ) (f : FVec F S16 .f32 → IVec S16 32 → TProg (F := F) i α) (C : α → TProg (F := F) i β) (Q : β → sProp 𝕄) :
    ∀ (n k : ℕ) (_ : k + n ≤ 80) (mx : FVec F S16 .f32) (ag : IVec S16 32),
      (scV.view.loc (tile d i) ↦{fullShare} scOf sc p)
        ⊢ iprop(((scV.view.loc (tile d i) ↦{fullShare} scOf sc p)
            -∗ wpT d i (f (fun y => (scan (scoresAt sc (p (16 * (h % 2) + (y 0).val))) n k (mx y) (ag y)).1)
                (fun y => (scan (scoresAt sc (p (16 * (h % 2) + (y 0).val))) n k (mx y) (ag y)).2) >>= C) Q)
          -∗ wpT d i (compareFrom i h f n k mx ag >>= C) Q)
  | 0, k, _, mx, ag => by
    iintro Hf HC
    iapply HC $$ Hf
  | n + 1, k, hk, mx, ag => by
    rw [compareFrom_succ]
    iintro Hf HC
    iapply (wp_load_rect 𝒱₀ (tile d i) none Set.univ (m := scV) (r := rect10 h k) (S := Finset.univ) (Finset.subset_univ _)) $$ Hf
    iintro Hf
    rw [read_class sc p h k (by omega)]
    iapply (wp_compare h f C Q n (k + 1) (by omega)) $$ Hf
    iintro Hf
    ihave H := HC $$ Hf
    unfold nextMx nextAg better
    rw [cast16_eq]
    iexact H

/-! ## The corners -/

theorem loPay_apply (y s : Vec F S16 .f32) (x : S1x16.Idx) : loPay y s x = lo (nth (n := 16) y (x 1).val) (nth (n := 16) s (x 1).val) := by
  unfold loPay; rw [cast1x16, cast16_eq, cast16_eq]; rfl
theorem hiPay_apply (y s : Vec F S16 .f32) (x : S1x16.Idx) : hiPay y s x = hi (nth (n := 16) y (x 1).val) (nth (n := 16) s (x 1).val) := by
  unfold hiPay; rw [cast1x16, cast16_eq, cast16_eq]; rfl

theorem mem_rect13 (h : ℕ) (hh : h < 2) (y : S32.Idx) : y ∈ (rect13 h).set ↔ (y 0).val / 16 = h := by
  rw [Rect.mem_set_unit, Fin.forall_fin_one]
  show (16 * (h % 2) ≤ (y 0).val ∧ (y 0).val < 16 * (h % 2) + 16) ↔ _
  omega

theorem mem_rect15 (h c : ℕ) (hh : h < 2) (hc : c < 4) (y : S4x32.Idx) : y ∈ (rect15 h c).set ↔ 4 * ((y 1).val / 16) + (y 0).val = 4 * h + c := by
  have h0 : (y 0).val < 4 := (y 0).isLt
  rw [Rect.mem_set_unit, Fin.forall_fin_two]
  show (c % 4 ≤ (y 0).val ∧ (y 0).val < c % 4 + 1) ∧ (16 * (h % 2) ≤ (y 1).val ∧ (y 1).val < 16 * (h % 2) + 16) ↔ _
  omega

/-- Corner `c` of the half `h`, at an entry of its block. -/
theorem bbOf_rect15 (h c : ℕ) (hc : c < 4) (x : S1x16.Idx) :
    bbOf bx p ((rect15 h c).emb x) = corner (boxAt bx (p (16 * (h % 2) + (x 1).val))) c := by
  have h0 : (x 0).val = 0 := by have h := (x 0).isLt; change (x 0).val < 1 at h; omega
  have e0 : (((rect15 h c).emb x) 0).val = c % 4 + 1 * (x 0).val := rfl
  have e1 : (((rect15 h c).emb x) 1).val = 16 * (h % 2) + 1 * (x 1).val := rfl
  unfold bbOf
  rw [e0, e1, h0, show c % 4 + 1 * 0 = c by omega, Nat.one_mul]

/-- Corner `c` of the half `h` stored, from any state that has the corners before it. -/
theorem wp_putCorner {α : Type} (h c : ℕ) (hh : h < 2) (hc : c < 4) (v : FVec F S1x16 .f32)
    (hv : ∀ x : S1x16.Idx, v x = corner (boxAt bx (p (16 * (h % 2) + (x 1).val))) c)
    (f : Buf (Elt F) (bbV.view.loc (tile d i))) (hf : ∀ y : S4x32.Idx, 4 * ((y 1).val / 16) + (y 0).val < 4 * h + c → f y = bbOf bx p y)
    (C : PUnit → TProg (F := F) i α) (Q : α → sProp 𝕄) :
    (bbV.view.loc (tile d i) ↦{fullShare} f)
      ⊢ iprop((∀ f' : Buf (Elt F) (bbV.view.loc (tile d i)), ⌜∀ y : S4x32.Idx, 4 * ((y 1).val / 16) + (y 0).val < 4 * h + (c + 1) → f' y = bbOf bx p y⌝
          -∗ (bbV.view.loc (tile d i) ↦{fullShare} f') -∗ wpT d i (C ⟨⟩) Q)
        -∗ wpT d i (putCorner i h c v >>= C) Q) := by
  rw [show (putCorner i h c v >>= C : TProg (F := F) i α) = .op (.load bbV (rect15 h c).toLoadRect (View.loadsAt_vmem h_S1x16)) fun _ =>
    .op (.store bbV (rect15 h c) v Finset.univ (View.stores_vmem_bits_univ h_S1x16 rfl) (.inl rfl)) fun _ => C ⟨⟩ from rfl]
  iintro Hf HC
  iapply (wp_load_rect 𝒱₀ (tile d i) none Set.univ (m := bbV) (r := rect15 h c) (S := Finset.univ) (Finset.subset_univ _)) $$ Hf
  iintro Hf
  iapply (wp_store 𝒱₀ (tile d i) none Set.univ (m := bbV) (r := rect15 h c) (S := Finset.univ) (Finset.subset_univ _)) $$ Hf
  iintro Hf
  iapply HC $$ %_ [] Hf
  ipureintro
  intro y hy
  refine (write_agree cc0_scratch7 (rect15 h c) f (bbOf bx p) v (fun x => (hv x).trans (bbOf_rect15 bx p h c hc x).symm) y).trans ?_
  split
  · rfl
  · rename_i hn; rw [mem_rect15 h c hh hc] at hn; exact hf y (by omega)

/-! ## A half -/

/-- What the results hold once `h` halves are done. -/
structure Done (h : ℕ) (f13 : Buf (Elt F) (mxV.view.loc (tile d i))) (f14 : Buf (Elt F) (agV.view.loc (tile d i))) (f15 : Buf (Elt F) (bbV.view.loc (tile d i))) : Prop where
  mx : ∀ y : S32.Idx, (y 0).val / 16 < h → f13 y = bestOf sc p y
  ag : ∀ y : S32.Idx, (y 0).val / 16 < h → f14 y = clsOf sc p y
  bb : ∀ y : S4x32.Idx, 4 * ((y 1).val / 16) + (y 0).val < 4 * h → f15 y = bbOf bx p y

/-- What a half reads and writes. -/
abbrev halfHeld (f13 : Buf (Elt F) (mxV.view.loc (tile d i))) (f14 : Buf (Elt F) (agV.view.loc (tile d i))) (f15 : Buf (Elt F) (bbV.view.loc (tile d i))) : sProp 𝕄 :=
  iprop((scV.view.loc (tile d i) ↦{fullShare} scOf sc p) ∗ (bxV.view.loc (tile d i) ↦{fullShare} bxOf bx p)
    ∗ (mxV.view.loc (tile d i) ↦{fullShare} f13) ∗ (agV.view.loc (tile d i) ↦{fullShare} f14) ∗ (bbV.view.loc (tile d i) ↦{fullShare} f15))

theorem wp_half {α : Type} (h : ℕ) (hh : h < 2) (f13 : Buf (Elt F) (mxV.view.loc (tile d i))) (f14 : Buf (Elt F) (agV.view.loc (tile d i)))
    (f15 : Buf (Elt F) (bbV.view.loc (tile d i))) (hd : Done d i sc bx p h f13 f14 f15) (C : PUnit → TProg (F := F) i α) (Q : α → sProp 𝕄) :
    halfHeld d i sc bx p f13 f14 f15
      ⊢ iprop((∀ g13 g14 g15, ⌜Done d i sc bx p (h + 1) g13 g14 g15⌝ -∗ halfHeld d i sc bx p g13 g14 g15 -∗ wpT d i (C ⟨⟩) Q)
        -∗ wpT d i (half i h >>= C) Q) := by
  rw [show (half i h >>= C : TProg (F := F) i α) = .op (.load scV (rect10 h 0).toLoadRect (View.loadsAt_vmem h_S16)) fun x =>
    (compareFrom i h (finish i h) 79 1 (shapeCast S16 x shapeCasts_S16_S16) (broadcast S16 0#32) >>= C) from rfl]
  iintro ⟨Hs, Hb, H13, H14, H15⟩ HC
  iapply (wp_load_rect 𝒱₀ (tile d i) none Set.univ (m := scV) (r := rect10 h 0) (S := Finset.univ) (Finset.subset_univ _)) $$ Hs
  iintro Hs
  rw [read_class sc p h 0 (by omega), cast16_eq]
  iapply (wp_compare d i sc p h (finish i h) C Q 79 1 (by omega)) $$ Hs
  iintro Hs
  rw [show (finish i h (fun y => (scan (scoresAt sc (p (16 * (h % 2) + (y 0).val))) 79 1 (scoresAt sc (p (16 * (h % 2) + (y 0).val)) 0) (broadcast S16 0#32 y)).1)
      (fun y => (scan (scoresAt sc (p (16 * (h % 2) + (y 0).val))) 79 1 (scoresAt sc (p (16 * (h % 2) + (y 0).val)) 0) (broadcast S16 0#32 y)).2) >>= C : TProg (F := F) i α)
    = .op (.load mxV (rect13 h).toLoadRect (View.loadsAt_vmem h_S16)) fun _ =>
      .op (.store mxV (rect13 h) (shapeCast S16 (fun y : S16.Idx => (best (scoresAt sc (p (16 * (h % 2) + (y 0).val)))).1) shapeCasts_S16_S16 : FVec F S16 .f32) Finset.univ (View.stores_vmem_bits_univ h_S16 rfl) (.inl rfl)) fun _ =>
      .op (.load agV (rect13 h).toLoadRect (View.loadsAt_vmem h_S16)) fun _ =>
      .op (.store agV (rect13 h) (shapeCast S16 (fun y : S16.Idx => (best (scoresAt sc (p (16 * (h % 2) + (y 0).val)))).2) shapeCasts_S16_S16 : IVec S16 32) Finset.univ (View.stores_vmem_bits_univ h_S16 rfl) (.inl rfl)) fun _ =>
      .op (.load bxV (rect12 h 0).toLoadRect (View.loadsAt_vmem h_S16)) fun y0 =>
      .op (.load bxV (rect12 h 1).toLoadRect (View.loadsAt_vmem h_S16)) fun y1 =>
      .op (.load bxV (rect12 h 2).toLoadRect (View.loadsAt_vmem h_S16)) fun s0 =>
      .op (.load bxV (rect12 h 3).toLoadRect (View.loadsAt_vmem h_S16)) fun s1 =>
        (putCorner i h 0 (loPay y0 s0) >>= fun _ => putCorner i h 1 (loPay y1 s1) >>= fun _ => putCorner i h 2 (hiPay y0 s0) >>= fun _ => putCorner i h 3 (hiPay y1 s1) >>= C) from by
      simp only [finish, Prog.bind_assoc]; rfl]
  iapply (wp_load_rect 𝒱₀ (tile d i) none Set.univ (m := mxV) (r := rect13 h) (S := Finset.univ) (Finset.subset_univ _)) $$ H13
  iintro H13
  iapply (wp_store 𝒱₀ (tile d i) none Set.univ (m := mxV) (r := rect13 h) (S := Finset.univ) (Finset.subset_univ _)) $$ H13
  iintro H13
  iapply (wp_load_rect 𝒱₀ (tile d i) none Set.univ (m := agV) (r := rect13 h) (S := Finset.univ) (Finset.subset_univ _)) $$ H14
  iintro H14
  iapply (wp_store 𝒱₀ (tile d i) none Set.univ (m := agV) (r := rect13 h) (S := Finset.univ) (Finset.subset_univ _)) $$ H14
  iintro H14
  iapply (wp_load_rect 𝒱₀ (tile d i) none Set.univ (m := bxV) (r := rect12 h 0) (S := Finset.univ) (Finset.subset_univ _)) $$ Hb
  iintro Hb
  iapply (wp_load_rect 𝒱₀ (tile d i) none Set.univ (m := bxV) (r := rect12 h 1) (S := Finset.univ) (Finset.subset_univ _)) $$ Hb
  iintro Hb
  iapply (wp_load_rect 𝒱₀ (tile d i) none Set.univ (m := bxV) (r := rect12 h 2) (S := Finset.univ) (Finset.subset_univ _)) $$ Hb
  iintro Hb
  iapply (wp_load_rect 𝒱₀ (tile d i) none Set.univ (m := bxV) (r := rect12 h 3) (S := Finset.univ) (Finset.subset_univ _)) $$ Hb
  iintro Hb
  rw [read_field bx p h 0 (by omega), read_field bx p h 1 (by omega), read_field bx p h 2 (by omega), read_field bx p h 3 (by omega)]
  have hnth : ∀ (c : ℕ) (x : S1x16.Idx), nth (n := 16) (fun y : S16.Idx => boxAt bx (p (16 * (h % 2) + (y 0).val)) c) (x 1).val
      = boxAt bx (p (16 * (h % 2) + (x 1).val)) c := fun c x => by
    have hx : (x 1).val < 16 := (x 1).isLt
    show boxAt bx (p (16 * (h % 2) + (x 1).val % 16)) c = _
    rw [Nat.mod_eq_of_lt hx]
  iapply (wp_putCorner d i bx p h 0 hh (by omega) _ (fun x => (loPay_apply _ _ x).trans (congrArg₂ lo (hnth 0 x) (hnth 2 x))) f15 hd.bb _ Q) $$ H15
  iintro %a0 %ha0 H15
  iapply (wp_putCorner d i bx p h 1 hh (by omega) _ (fun x => (loPay_apply _ _ x).trans (congrArg₂ lo (hnth 1 x) (hnth 3 x))) a0 ha0 _ Q) $$ H15
  iintro %a1 %ha1 H15
  iapply (wp_putCorner d i bx p h 2 hh (by omega) _ (fun x => (hiPay_apply _ _ x).trans (congrArg₂ hi (hnth 0 x) (hnth 2 x))) a1 ha1 _ Q) $$ H15
  iintro %a2 %ha2 H15
  iapply (wp_putCorner d i bx p h 3 hh (by omega) _ (fun x => (hiPay_apply _ _ x).trans (congrArg₂ hi (hnth 1 x) (hnth 3 x))) a2 ha2 _ Q) $$ H15
  iintro %a3 %ha3 H15
  iapply HC $$ %_ %_ %a3 [] [Hs Hb H13 H14 H15]
  rotate_left
  · isplitl [Hs]; · iexact Hs
    isplitl [Hb]; · iexact Hb
    isplitl [H13]; · iexact H13
    isplitl [H14]; · iexact H14
    iexact H15
  ipureintro
  refine ⟨fun y hy => ?_, fun y hy => ?_, fun y hy => ha3 y (by omega)⟩
  · refine (write_agree cc0_scratch5 (rect13 h) f13 (bestOf sc p) _ (fun x => ?_) y).trans ?_
    · rw [cast16]
      show _ = (best (scoresAt sc (p (16 * (h % 2) + 1 * (x 0).val)))).1
      rw [Nat.one_mul]
    · split
      · rfl
      · rename_i hn; rw [mem_rect13 h hh] at hn; exact hd.mx y (by omega)
  · refine (write_agree cc0_scratch6 (rect13 h) f14 (clsOf sc p) _ (fun x => ?_) y).trans ?_
    · rw [cast16]
      show _ = (best (scoresAt sc (p (16 * (h % 2) + 1 * (x 0).val)))).2
      rw [Nat.one_mul]
    · split
      · rfl
      · rename_i hn; rw [mem_rect13 h hh] at hn; exact hd.ag y (by omega)

end Cert.Kernel.Tile

end
-- ==== Proof.Copies.lean ====
/- The copies of a tile: its positions in, its results out. -/
module

public import proofs.«01_k».proof.Proof.Base

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

variable (d : Dev nD) (i : grid0.Coords)

/-! ## One copy and its wait -/

/-- A copy on a semaphore and the wait for it, then `C`. -/
abbrev copyThen {sp sp' : Space} {s : Shape} {e : EltTy} {α : Type} (src : Memref sig .scVector sp s e) (dst : Memref sig .scVector sp' s e) (S : DmaSem sig)
    (hs : src.view.WordExact) (hd : dst.view.WordExact) (ht : DmaTarget.Typed (nD := nD) (p := .scVector (cV i) (jV i)) sp (.dma S) (.here dst)) (C : TProg (F := F) i α) : TProg (F := F) i α :=
  .op (.enqueueDma src (.here dst) (.dma S) hs hd ht) fun _ => .op (.waitDma2 S src dst hs hd) fun _ => C

/-- The destination's window holds `G` once a source that reads as `G` does has been copied into it. -/
theorem wp_copyThen {sp sp' : Space} {s : Shape} {e : EltTy} {α : Type} (src : Memref sig .scVector sp s e) (dst : Memref sig .scVector sp' s e) (S : DmaSem sig)
    {hs : src.view.WordExact} {hd : dst.view.WordExact} {ht : DmaTarget.Typed (nD := nD) (p := .scVector (cV i) (jV i)) sp (.dma S) (.here dst)}
    (hN : 0 < dst.view.dmaCredit) (q : PosShare TreeShare) (fs : Buf (Elt F) (src.view.loc (tile d i))) (fd G : Buf (Elt F) (dst.view.loc (tile d i)))
    (hG : src.view.read (Elt F) fs = dst.view.read (Elt F) G)
    (O : CellTallies nD τ sig (HIx 1)) (W : Waits sig (HIx 1)) (C : TProg (F := F) i α) (Q : α → sProp 𝕄) :
    iprop(Transfers.MayWaits (tile d i) (default : HIx 1) O ∗ (src.view.loc (tile d i) ↦[src.view.set]{q} fs)
        ∗ (dst.view.loc (tile d i) ↦[dst.view.set]{fullShare} fd) ∗ semVal (tile d i, .dma S) 0 ∗ owes (tile d i) O W)
      ⊢ iprop(((src.view.loc (tile d i) ↦[src.view.set]{q} fs) -∗ (dst.view.loc (tile d i) ↦[dst.view.set]{fullShare} G) -∗ semVal (tile d i, .dma S) 0
            -∗ owes (tile d i) O (insert (SemLoc.dma S, (default : HIx 1)) W) -∗ wpT d i C Q)
          -∗ wpT d i (copyThen i src dst S hs hd ht C) Q) := by
  have eG : (dst.view.loc (tile d i) ↦[dst.view.set]{fullShare} (dst.view.write (Elt F) fd (src.view.read (Elt F) fs) Finset.univ) : sProp 𝕄)
      = (dst.view.loc (tile d i) ↦[dst.view.set]{fullShare} G) := by
    refine pointsTo_congr fun y hy => ?_
    rw [hG, View.write_read_eq_piecewise]
    exact Finset.piecewise_eq_of_mem _ _ _ hy
  iintro ⟨#Hmw, Hs, Hd, Hv, HO⟩ HC
  iapply (Transfers.wp_dmaLocal countersEmb 𝒱₀ (tile d i) none (src := src) (dst := dst) (sm := .dma S) (q := q) (fs := fs) (Sd := dst.view.set) (fd := fd)
    (default : HIx 1) dst.view.dmaCredit rfl hN (Finset.Subset.refl _)) $$ [Hs Hd Hv]
  · isplitl [Hs]; · iexact Hs
    isplitl [Hd]; · iexact Hd
    iexact Hv
  iintro Hfl
  iapply (Transfers.wp_waitLocalO countersEmb 𝒱₀ (tile d i) none (default : HIx 1) (rfl : dst.view.dmaCredit = _)) $$ [Hfl HO]
  · isplitl [Hfl]; · iexact Hfl
    isplitl [HO]; · iexact HO
    iapply (Transfers.MayWaits.elim (SemLoc.dma S)) $$ Hmw
  iintro ⟨⟨Hd, Hs⟩, Hv, HO⟩
  ihave Hd' := (Entails.of_eq eG) $$ Hd
  iapply HC $$ Hs Hd' Hv HO

/-! ## The windows -/

/-- The number of the tile at coordinates `i`. -/
abbrev num (i : grid0.Coords) : ℕ := 2 * (i 1).val + (i 0).val

/-- A tile's entries of a row of 1024. -/
def win (i : grid0.Coords) : Finset S1024.Idx := (rowRect i).set
/-- A tile's entries of row `c` of the corners. -/
def rowWin (i : grid0.Coords) (c : ℕ) : Finset S4x1024.Idx := Finset.univ.filter fun y => (y 0).val = c ∧ (y 1).val / 32 = num i

theorem mem_win (y : S1024.Idx) : y ∈ win i ↔ (y 0).val / 32 = num i := by
  unfold win
  rw [Rect.mem_set_unit, k0_off1_eq, Fin.forall_fin_one]
  show (64 * (i 1).val + 32 * (i 0).val ≤ (y 0).val ∧ (y 0).val < 64 * (i 1).val + 32 * (i 0).val + 32) ↔ _
  unfold num
  omega

theorem set_idxWin : (idxWin i).view.set = win i := View.set_slice_whole (main_v2_scv : Ref sig .scVector) _
theorem set_bestWin : (bestWin i).view.set = win i := View.set_slice_whole (main_v5_1_scv : Ref sig .scVector) _
theorem set_clsWin : (clsWin i).view.set = win i := View.set_slice_whole (main_v5_2_scv : Ref sig .scVector) _

theorem set_bboxWin (c : ℕ) (off : Fin 2 → ℕ) (h : ∀ a, off a + S1x32.size a ≤ S4x1024.size a) (e : off = ![c, 64 * (i 1).val + 32 * (i 0).val]) :
    (bboxWin off h).view.set = rowWin i c := by
  subst e
  refine ((View.set_reshape _ _).trans (View.set_slice_whole (main_v5_0_scv : Ref sig .scVector) _)).trans ?_
  refine Finset.ext fun (y : S4x1024.Idx) => Rect.mem_set_unit.trans ((Fin.forall_fin_two (p := fun a : Fin 2 =>
    ![c, 64 * (i 1).val + 32 * (i 0).val] a ≤ (y a).val ∧ (y a).val < ![c, 64 * (i 1).val + 32 * (i 0).val] a + S1x32.size a)).trans ?_)
  unfold rowWin
  rw [Finset.mem_filter]
  show (c ≤ (y 0).val ∧ (y 0).val < c + 1) ∧ (64 * (i 1).val + 32 * (i 0).val ≤ (y 1).val ∧ (y 1).val < 64 * (i 1).val + 32 * (i 0).val + 32) ↔ _
  unfold num
  simp only [Finset.mem_univ, true_and]
  omega

/-! ## What a tile's windows read -/

section Read

variable (ix : S1024.Idx → BitVec 32) (sc : S1600000.Idx → F .f32) (bx : S80000.Idx → F .f32)

/-- The positions of the tile at coordinates `i`. -/
def posOf (k : ℕ) : BitVec 32 := nth (n := 32) ((idxWin i).view.read (Elt F) ix) k

theorem posOf_lt (hix : ∀ y, (ix y).toNat < 20000) (k : ℕ) : (posOf (F := F) i ix k).toNat < 20000 := hix _

theorem posOf_eq (y : S32.Idx) : posOf (F := F) i ix (y 0).val = ix ((rowRect i).emb y) :=
  nth_val (n := 32) ((idxWin i).view.read (Elt F) ix) y

theorem read_bestWin : mxV.view.read (Elt F) (bestOf sc (posOf (F := F) i ix)) = (bestWin i).view.read (Elt F) (bestAll ix sc) := by
  funext y
  show (best (scoresAt sc (posOf (F := F) i ix (y 0).val))).1 = (best (scoresAt sc (ix ((rowRect i).emb y)))).1
  rw [posOf_eq]

theorem read_clsWin : agV.view.read (Elt F) (clsOf sc (posOf (F := F) i ix)) = (clsWin i).view.read (Elt F) (clsAll ix sc) := by
  funext y
  show (best (scoresAt sc (posOf (F := F) i ix (y 0).val))).2 = (best (scoresAt sc (ix ((rowRect i).emb y)))).2
  rw [posOf_eq]

theorem read_bboxWin (c : ℕ) (hc : c < 4) (off : Fin 2 → ℕ) (h : ∀ a, off a + S1x32.size a ≤ S4x1024.size a) (e : off = ![c, 64 * (i 1).val + 32 * (i 0).val]) :
    (bbRow c).view.read (Elt F) (bbOf bx (posOf (F := F) i ix)) = (bboxWin off h).view.read (Elt F) (bbAll ix bx) := by
  subst e
  funext x
  have hx : (x 0).val < 32 := (x 0).isLt
  have e : Shape.reshapeEquiv (squeezes_S1x32_S32.numel_eq) x = (fun a => ⟨![0, (x 0).val] a, by fin_cases a; exacts [Nat.one_pos, hx]⟩ : S1x32.Idx) :=
    Shape.reshapeEquiv_eq_of_rowMajor _ (by
      rw [Shape.rowMajor_val_two, Shape.rowMajor_val_one]
      show 0 * 32 + (x 0).val = (x 0).val
      omega)
  show bbOf bx (posOf (F := F) i ix) ((Rect.unit (s := S4x32) ![c % 4, 0] S1x32.size (inb15w c)).emb (Shape.reshapeEquiv (squeezes_S1x32_S32.numel_eq) x))
    = bbAll ix bx ((Rect.unit (s := S4x1024) ![c, 64 * (i 1).val + 32 * (i 0).val] S1x32.size h).emb (Shape.reshapeEquiv (squeezes_S1x32_S32.numel_eq) x))
  rw [e]
  show corner (boxAt bx (posOf (F := F) i ix (0 + 1 * (x 0).val))) (c % 4 + 1 * 0)
    = corner (boxAt bx (nth ix (64 * (i 1).val + 32 * (i 0).val + 1 * (x 0).val))) (c + 1 * 0)
  rw [Nat.mod_eq_of_lt hc, Nat.zero_add, Nat.one_mul, posOf_eq, nth_eq (n := 1024) ix ((rowRect i).emb x) (64 * (i 1).val + 32 * (i 0).val + (x 0).val) ?_]
  show k0_off1 i 0 + 1 * (x 0).val = _
  rw [k0_off1_eq]
  show 64 * (i 1).val + 32 * (i 0).val + 1 * (x 0).val = _
  omega

end Read

/-! ## The copies out -/

/-- The corners' result, as the launch names it. -/
abbrev bboxLoc (d : Dev nD) : Loc nD τ sig := (SparseCore.T d).loc main_v5_0
@[inherit_doc bboxLoc] abbrev bestLoc (d : Dev nD) : Loc nD τ sig := (SparseCore.T d).loc main_v5_1
@[inherit_doc bboxLoc] abbrev clsLoc (d : Dev nD) : Loc nD τ sig := (SparseCore.T d).loc main_v5_2
@[inherit_doc bboxLoc] abbrev idxLoc (d : Dev nD) : Loc nD τ sig := (SparseCore.T d).loc main_v2
@[inherit_doc bboxLoc] abbrev scoreLoc (d : Dev nD) : Loc nD τ sig := (SparseCore.T d).loc main_v3
@[inherit_doc bboxLoc] abbrev boxLoc (d : Dev nD) : Loc nD τ sig := (SparseCore.T d).loc main_v4

/-- Row `c` of the corners copied out. -/
theorem wp_copyRow {α : Type} (ix : S1024.Idx → BitVec 32) (bx : S80000.Idx → F .f32) (c : ℕ) (hc : c < 4) (off : Fin 2 → ℕ)
    (h : ∀ a, off a + S1x32.size a ≤ S4x1024.size a) (e : off = ![c, 64 * (i 1).val + 32 * (i 0).val]) (S : DmaSem sig)
    {hs : (bbRow c).view.WordExact} {hd : (bboxWin off h).view.WordExact} {ht : DmaTarget.Typed (nD := nD) (p := .scVector (cV i) (jV i)) .vmem (.dma S) (.here (bboxWin off h))}
    (g : Buf (Elt F) (bboxLoc d)) (O : CellTallies nD τ sig (HIx 1)) (W : Waits sig (HIx 1)) (C : TProg (F := F) i α) (Q : α → sProp 𝕄) :
    iprop(Transfers.MayWaits (tile d i) (default : HIx 1) O ∗ (bbV.view.loc (tile d i) ↦{fullShare} bbOf bx (posOf (F := F) i ix))
        ∗ (bboxLoc d ↦[rowWin i c]{fullShare} g) ∗ semVal (tile d i, .dma S) 0 ∗ owes (tile d i) O W)
      ⊢ iprop(((bbV.view.loc (tile d i) ↦{fullShare} bbOf bx (posOf (F := F) i ix)) -∗ (bboxLoc d ↦[rowWin i c]{fullShare} bbAll ix bx) -∗ semVal (tile d i, .dma S) 0
            -∗ owes (tile d i) O (insert (SemLoc.dma S, (default : HIx 1)) W) -∗ wpT d i C Q)
          -∗ wpT d i (copyThen i (bbRow c) (bboxWin off h) S hs hd ht C) Q) := by
  rw [← set_bboxWin i c off h e]
  iintro ⟨#Hmw, Hs, Hd, Hv, HO⟩ HC
  ihave Hs1 := (pointsTo_split_subset (ℓ := bbV.view.loc (tile d i)) (q := fullShare) (f := bbOf bx (posOf (F := F) i ix)) (S := Finset.univ)
    (Finset.subset_univ (bbRow c).view.set)).1 $$ Hs
  icases Hs1 with ⟨Hs, Hrest⟩
  iapply (wp_copyThen d i (bbRow c) (bboxWin off h) S (show 0 < 1024 by decide) fullShare (bbOf bx (posOf (F := F) i ix)) g (bbAll ix bx)
    (read_bboxWin i ix bx c hc off h e) O W C Q) $$ [Hs Hd Hv HO]
  · isplitr; · iexact Hmw
    isplitl [Hs]; · iexact Hs
    isplitl [Hd]; · iexact Hd
    isplitl [Hv]; · iexact Hv
    iexact HO
  iintro Hs Hd Hv HO
  ihave Hs1 := (pointsTo_split_subset (ℓ := bbV.view.loc (tile d i)) (q := fullShare) (f := bbOf bx (posOf (F := F) i ix)) (S := Finset.univ)
    (Finset.subset_univ (bbRow c).view.set)).2 $$ [Hs Hrest]
  · isplitl [Hs] <;> iassumption
  iapply HC $$ Hs1 Hd Hv HO

theorem copies_eq : copies (F := F) i =
    copyThen i mxV (bestWin i) cc0_scoped1.sem (Memref.isWhole_whole _).wordExact (View.wordExact_bits rfl) ⟨Or.inl rfl, trivial⟩ (
    copyThen i agV (clsWin i) cc0_scoped2.sem (Memref.isWhole_whole _).wordExact (View.wordExact_bits rfl) ⟨Or.inl rfl, trivial⟩ (
    copyThen i (bbRow 0) (bboxWin (k0_off2 i) (k0_off2_inb i)) cc0_scoped3.sem ((View.wordExact_bits rfl).reshape _ _) ((View.wordExact_bits rfl).reshape _ _) ⟨Or.inl rfl, trivial⟩ (
    copyThen i (bbRow 1) (bboxWin (k0_off3 i) (k0_off3_inb i)) cc0_scoped4.sem ((View.wordExact_bits rfl).reshape _ _) ((View.wordExact_bits rfl).reshape _ _) ⟨Or.inl rfl, trivial⟩ (
    copyThen i (bbRow 2) (bboxWin (k0_off4 i) (k0_off4_inb i)) cc0_scoped5.sem ((View.wordExact_bits rfl).reshape _ _) ((View.wordExact_bits rfl).reshape _ _) ⟨Or.inl rfl, trivial⟩ (
    copyThen i (bbRow 3) (bboxWin (k0_off5 i) (k0_off5_inb i)) cc0_scoped6.sem ((View.wordExact_bits rfl).reshape _ _) ((View.wordExact_bits rfl).reshape _ _) ⟨Or.inl rfl, trivial⟩ (
    pure ⟨⟩)))))) := by
  simp only [copies, copyRow, Prog.bind_assoc]; rfl

end Cert.Kernel.Tile

end
-- ==== Proof.TileBody.lean ====
/- A tile from start to end: what it is handed, and what it hands back. -/
module

public import proofs.«01_k».proof.Proof.StreamsWhole
public import proofs.«01_k».proof.Proof.Own
public import proofs.«01_k».proof.Proof.Lists
public import proofs.«01_k».proof.Proof.Half
public import proofs.«01_k».proof.Proof.Copies

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

variable (d : Dev nD) (i : grid0.Coords)

/-! ## The tile -/

theorem rolled_unfold : rolled (F := F) i =
    copyThen i (idxWin i) idxV cc0_scoped0.sem (View.wordExact_bits rfl) (Memref.isWhole_whole _).wordExact ⟨Or.inl rfl, trivial⟩
      (lists i >>= fun _ => streams i >>= fun _ => half i 0 >>= fun _ => half i 1 >>= fun _ => copies i) := rfl

/-- What a tile is handed and hands back: its positions, a share of the scores and of the boxes, and its windows of the results. -/
def tileRes (qs qb : PosShare TreeShare) (ix : Buf (Elt F) (idxLoc d)) (sc : Buf (Elt F) (scoreLoc d)) (bx : Buf (Elt F) (boxLoc d))
    (g0 : Buf (Elt F) (bboxLoc d)) (g1 : Buf (Elt F) (bestLoc d)) (g2 : Buf (Elt F) (clsLoc d)) : sProp 𝕄 :=
  iprop((idxLoc d ↦[win i]{fullShare} ix) ∗ (scoreLoc d ↦{qs} sc) ∗ (boxLoc d ↦{qb} bx)
    ∗ (bestLoc d ↦[win i]{fullShare} g1) ∗ (clsLoc d ↦[win i]{fullShare} g2)
    ∗ (bboxLoc d ↦[rowWin i 0]{fullShare} g0) ∗ (bboxLoc d ↦[rowWin i 1]{fullShare} g0) ∗ (bboxLoc d ↦[rowWin i 2]{fullShare} g0) ∗ (bboxLoc d ↦[rowWin i 3]{fullShare} g0))

theorem wp_done (Q : PUnit → sProp 𝕄) : Q ⟨⟩ ⊢ wpT d i (pure ⟨⟩) Q := by
  unfold wpT
  rw [wp_pure]
  iintro H
  imodintro
  iexact H

theorem waited {W : Waits sig (HIx 1)} {W' : Waits sig (HIx 1)} (S : SemLoc sig) (h : ∀ w ∈ W', w ∈ W ∨ w.2 = none) :
    ∀ w ∈ insert (S, (default : HIx 1)) W', w ∈ W ∨ w.2 = none := by
  intro w hw
  rcases Finset.mem_insert.mp hw with hw | hw
  · subst hw; exact .inr rfl
  · exact h w hw

set_option maxHeartbeats 1000000 in
theorem tile_body (qs qb : PosShare TreeShare) (ix : Buf (Elt F) (idxLoc d)) (sc : Buf (Elt F) (scoreLoc d)) (bx : Buf (Elt F) (boxLoc d))
    (g0 : Buf (Elt F) (bboxLoc d)) (g1 : Buf (Elt F) (bestLoc d)) (g2 : Buf (Elt F) (clsLoc d)) (hix : ∀ y : S1024.Idx, (ix y).toNat < 20000)
    (O : CellTallies nD τ sig (HIx 1)) (W : Waits sig (HIx 1)) (hO : ∀ g, O g none = 0) :
    iprop(levAts (K (F := F)).L (K (F := F)).lev ∗ emp ∗ tileRes d i qs qb ix sc bx g0 g1 g2
        ∗ scopedBufs (tile d i) ∗ scopedSems0 (tile d i) ∗ owes (tile d i) O W)
      ⊢ wpT d i (rolled i) fun _ => iprop(tileRes d i qs qb ix sc bx (bbAll ix bx) (bestAll ix sc) (clsAll ix sc)
            ∗ scopedBufs (tile d i) ∗ scopedSems0 (tile d i) ∗ ∃ W', ⌜∀ p ∈ W', p ∈ W ∨ p.2 = none⌝ ∗ owes (tile d i) O W') := by
  rw [(K (F := F)).scopedBufs_V launchFacts d (cV i) (jV i), SparseCore.Cfg.scopedSems0_V (Val := Elt F) d (cV i) (jV i), ownSems_eq, ownBufs_eq, rolled_unfold]
  unfold tileRes
  iintro ⟨#Hlv, -, ⟨Hi, Hsc, Hbx, H1, H2, R0, R1, R2, R3⟩, ⟨⟨%f0, B0⟩, ⟨%f1, B1⟩, ⟨%f2, B2⟩, ⟨%f3, B3⟩, ⟨%f4, B4⟩, ⟨%f5, B5⟩, ⟨%f6, B6⟩, ⟨%f7, B7⟩, Bs⟩,
    ⟨S8, S0, S1, S2, S3, S4, S5, S6, Ss⟩, HO⟩
  ihave #Hmw := (show levAts (K (F := F)).L (K (F := F)).lev ⊢ Transfers.MayWaits (tile d i) (default : HIx 1) O from
    (K (F := F)).mayWaits_none (thr := tile d i) hO) $$ Hlv
  -- the positions come in
  iapply (wp_copyThen d i (idxWin i) idxV cc0_scoped0.sem (show 0 < 1024 by decide) fullShare ix f0 ((idxWin i).view.read (Elt F) ix) rfl O W) $$ [Hi B0 S0 HO]
  · isplitr; · iexact Hmw
    isplitl [Hi]
    · rw [set_idxWin]; iexact Hi
    isplitl [B0]
    · rw [(Memref.isWhole_whole (cc0_scratch0 : Ref sig .scVector)).set_eq_univ]; iexact B0
    isplitl [S0]; · iexact S0
    iexact HO
  iintro Hi B0 S0 HO
  rw [(Memref.isWhole_whole (cc0_scratch0 : Ref sig .scVector)).set_eq_univ, set_idxWin]
  -- the lists, the gathers, the halves
  iapply (wp_lists d i ((idxWin i).view.read (Elt F) ix) f1 f3) $$ [B0 B1 B3]
  · isplitl [B0]; · iexact B0
    isplitl [B1]; · iexact B1
    iexact B3
  iintro B0 B1 B3
  iapply (wp_streams d i (posOf (F := F) i ix) (posOf_lt i ix hix) qs qb sc bx f2 f4 _ _ O (insert (SemLoc.dma cc0_scoped0.sem, (default : HIx 1)) W)) $$ [Hsc Hbx B1 B2 B3 B4 S8 HO]
  · isplitr; · iexact Hmw
    isplitl [Hsc B1 B2]
    · isplitl [Hsc]; · iexact Hsc
      isplitl [B2]; · iexact B2
      iexact B1
    isplitl [Hbx B3 B4]
    · isplitl [B4]; · iexact B4
      isplitl [Hbx]; · iexact Hbx
      iexact B3
    isplitl [S8]; · iexact S8
    iexact HO
  iintro %W1 %hW1 ⟨Hsc, B2, B1⟩ ⟨B4, Hbx, B3⟩ S8 HO
  have hW1' : ∀ w ∈ W1, w ∈ W ∨ w.2 = none := fun w hw => (hW1 w hw).elim (fun h => waited (SemLoc.dma cc0_scoped0.sem) (fun _ h => .inl h) w h) .inr
  iapply (wp_half d i sc bx (posOf (F := F) i ix) 0 (by omega) f5 f6 f7
    ⟨fun y h => absurd h (Nat.not_lt_zero _), fun y h => absurd h (Nat.not_lt_zero _), fun y h => absurd h (Nat.not_lt_zero _)⟩) $$ [B2 B4 B5 B6 B7]
  · isplitl [B2]; · iexact B2
    isplitl [B4]; · iexact B4
    isplitl [B5]; · iexact B5
    isplitl [B6]; · iexact B6
    iexact B7
  iintro %h5 %h6 %h7 %hd1 Hh
  iapply (wp_half d i sc bx (posOf (F := F) i ix) 1 (by omega) h5 h6 h7 hd1) $$ Hh
  iintro %k5 %k6 %k7 %hd2 ⟨B2, B4, B5, B6, B7⟩
  have e5 : k5 = bestOf sc (posOf (F := F) i ix) := funext fun y => hd2.mx y (by have h : (y 0).val < 32 := (y 0).isLt; omega)
  have e6 : k6 = clsOf sc (posOf (F := F) i ix) := funext fun y => hd2.ag y (by have h : (y 0).val < 32 := (y 0).isLt; omega)
  have e7 : k7 = bbOf bx (posOf (F := F) i ix) := funext fun y => hd2.bb y (by
    have h : (y 0).val < 4 := (y 0).isLt
    have h : (y 1).val < 32 := (y 1).isLt
    omega)
  subst e5 e6 e7
  -- the results go out
  rw [copies_eq]
  iapply (wp_copyThen d i mxV (bestWin i) cc0_scoped1.sem (show 0 < 1024 by decide) fullShare (bestOf sc (posOf (F := F) i ix)) g1 (bestAll ix sc)
    (read_bestWin i ix sc) O W1) $$ [B5 H1 S1 HO]
  · rw [(Memref.isWhole_whole (cc0_scratch5 : Ref sig .scVector)).set_eq_univ, set_bestWin]
    isplitr; · iexact Hmw
    isplitl [B5]; · iexact B5
    isplitl [H1]; · iexact H1
    isplitl [S1]; · iexact S1
    iexact HO
  iintro B5 H1 S1 HO
  rw [(Memref.isWhole_whole (cc0_scratch5 : Ref sig .scVector)).set_eq_univ, set_bestWin]
  iapply (wp_copyThen d i agV (clsWin i) cc0_scoped2.sem (show 0 < 1024 by decide) fullShare (clsOf sc (posOf (F := F) i ix)) g2 (clsAll ix sc)
    (read_clsWin i ix sc) O (insert (SemLoc.dma cc0_scoped1.sem, (default : HIx 1)) W1)) $$ [B6 H2 S2 HO]
  · rw [(Memref.isWhole_whole (cc0_scratch6 : Ref sig .scVector)).set_eq_univ, set_clsWin]
    isplitr; · iexact Hmw
    isplitl [B6]; · iexact B6
    isplitl [H2]; · iexact H2
    isplitl [S2]; · iexact S2
    iexact HO
  iintro B6 H2 S2 HO
  rw [(Memref.isWhole_whole (cc0_scratch6 : Ref sig .scVector)).set_eq_univ, set_clsWin]
  have hW2 := waited (SemLoc.dma cc0_scoped2.sem) (waited (SemLoc.dma cc0_scoped1.sem) hW1')
  iapply (wp_copyRow d i ix bx 0 (by omega) (k0_off2 i) (k0_off2_inb i) (k0_off2_eq i) cc0_scoped3.sem g0 O _) $$ [B7 R0 S3 HO]
  · isplitr; · iexact Hmw
    isplitl [B7]; · iexact B7
    isplitl [R0]; · iexact R0
    isplitl [S3]; · iexact S3
    iexact HO
  iintro B7 R0 S3 HO
  iapply (wp_copyRow d i ix bx 1 (by omega) (k0_off3 i) (k0_off3_inb i) (k0_off3_eq i) cc0_scoped4.sem g0 O _) $$ [B7 R1 S4 HO]
  · isplitr; · iexact Hmw
    isplitl [B7]; · iexact B7
    isplitl [R1]; · iexact R1
    isplitl [S4]; · iexact S4
    iexact HO
  iintro B7 R1 S4 HO
  iapply (wp_copyRow d i ix bx 2 (by omega) (k0_off4 i) (k0_off4_inb i) (k0_off4_eq i) cc0_scoped5.sem g0 O _) $$ [B7 R2 S5 HO]
  · isplitr; · iexact Hmw
    isplitl [B7]; · iexact B7
    isplitl [R2]; · iexact R2
    isplitl [S5]; · iexact S5
    iexact HO
  iintro B7 R2 S5 HO
  iapply (wp_copyRow d i ix bx 3 (by omega) (k0_off5 i) (k0_off5_inb i) (k0_off5_eq i) cc0_scoped6.sem g0 O _) $$ [B7 R3 S6 HO]
  · isplitr; · iexact Hmw
    isplitl [B7]; · iexact B7
    isplitl [R3]; · iexact R3
    isplitl [S6]; · iexact S6
    iexact HO
  iintro B7 R3 S6 HO
  iapply (wp_done d i)
  isplitl [Hi Hsc Hbx H1 H2 R0 R1 R2 R3]
  · isplitl [Hi]; · iexact Hi
    isplitl [Hsc]; · iexact Hsc
    isplitl [Hbx]; · iexact Hbx
    isplitl [H1]; · iexact H1
    isplitl [H2]; · iexact H2
    isplitl [R0]; · iexact R0
    isplitl [R1]; · iexact R1
    isplitl [R2]; · iexact R2
    iexact R3
  isplitl [B0 B1 B2 B3 B4 B5 B6 B7 Bs]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    iexact Bs
  isplitl [S0 S1 S2 S3 S4 S5 S6 S8 Ss]
  · isplitl [S8]; · iexact S8
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Ss
  iexists _; isplitr
  swap; · iexact HO
  ipureintro
  exact waited _ (waited _ (waited _ (waited _ hW2)))

end Cert.Kernel.Tile

end
-- ==== Proof.Split.lean ====
/- The arrays dealt to the thirty-two tiles and taken back: each tile its window of the positions and of the results, and its
   share of the scores and of the corners. -/
module

public import proofs.«01_k».proof.Proof.TileBody
public import Idealize.ShloMosaic.Lib.ShareLeaves

@[expose] public section

noncomputable section

namespace Cert.Kernel.Tile

open Idealize.ShloMosaic
open Idealize.ShloMosaic.ShareLeaves (leaf pointsTo_leaves)
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

/-- The coordinates of the tile at subcore `p.2` of SparseCore `p.1`. -/
def co (p : Fin 2 × Fin 16) : grid0.Coords :=
  fun | 0 => p.1 | 1 => p.2 | ⟨_ + 2, h⟩ => absurd h (Nat.not_lt.2 (Nat.le_add_left _ _))

/-- The tiles in the order of their numbers. -/
def tileNo : Fin 2 × Fin 16 ≃ Fin (2 ^ 5) := (Equiv.prodComm _ _).trans finProdFinEquiv

theorem tileNo_val (p : Fin 2 × Fin 16) : (tileNo p).val = num (co p) := by
  show p.1.val + 2 * p.2.val = 2 * p.2.val + p.1.val
  omega

/-- A tile's share of an array that every tile reads. -/
def sh (p : Fin 2 × Fin 16) : PosShare TreeShare := leaf 5 fullShare (tileNo p)

theorem num_inj {p q : Fin 2 × Fin 16} (h : num (co p) = num (co q)) : p = q := by
  rw [← tileNo_val, ← tileNo_val] at h
  exact tileNo.injective (Fin.ext h)

theorem num_onto (n : ℕ) (h : n < 32) : ∃ p, num (co p) = n :=
  ⟨tileNo.symm ⟨n, h⟩, by rw [← tileNo_val, Equiv.apply_symm_apply]⟩

theorem win_disjoint : ∀ p ∈ (Finset.univ : Finset (Fin 2 × Fin 16)), ∀ q ∈ (Finset.univ : Finset (Fin 2 × Fin 16)), p ≠ q → Disjoint (win (co p)) (win (co q)) :=
  fun p _ q _ h => Finset.disjoint_left.mpr fun y hp hq => h (num_inj (((mem_win (co p) y).mp hp).symm.trans ((mem_win (co q) y).mp hq)))

theorem win_cover : (Finset.univ : Finset (Fin 2 × Fin 16)).biUnion (β := S1024.Idx) (fun p => win (co p)) = Finset.univ := by
  refine Finset.eq_univ_of_forall fun y => Finset.mem_biUnion.mpr ?_
  have hy : (y 0).val < 1024 := (y 0).isLt
  obtain ⟨p, hp⟩ := num_onto ((y 0).val / 32) (by omega)
  exact ⟨p, Finset.mem_univ _, (mem_win (co p) y).mpr hp.symm⟩

theorem mem_rowWin (i : grid0.Coords) (c : ℕ) (y : S4x1024.Idx) : y ∈ rowWin i c ↔ (y 0).val = c ∧ (y 1).val / 32 = num i := by
  unfold rowWin
  rw [Finset.mem_filter]
  exact and_iff_right (Finset.mem_univ _)

theorem rowWin_disjoint : ∀ p ∈ (Finset.univ : Finset ((Fin 2 × Fin 16) × Fin 4)), ∀ q ∈ (Finset.univ : Finset ((Fin 2 × Fin 16) × Fin 4)), p ≠ q →
    Disjoint (rowWin (co p.1) p.2.val) (rowWin (co q.1) q.2.val) :=
  fun p _ q _ h => Finset.disjoint_left.mpr fun y hp hq => h <| by
    have h1 := (mem_rowWin _ _ y).mp hp
    have h2 := (mem_rowWin _ _ y).mp hq
    exact Prod.ext (num_inj (h1.2.symm.trans h2.2)) (Fin.ext (h1.1.symm.trans h2.1))

theorem rowWin_cover : (Finset.univ : Finset ((Fin 2 × Fin 16) × Fin 4)).biUnion (β := S4x1024.Idx) (fun p => rowWin (co p.1) p.2.val) = Finset.univ := by
  refine Finset.eq_univ_of_forall fun y => Finset.mem_biUnion.mpr ?_
  have hy : (y 1).val < 1024 := (y 1).isLt
  obtain ⟨p, hp⟩ := num_onto ((y 1).val / 32) (by omega)
  exact ⟨(p, y 0), Finset.mem_univ _, (mem_rowWin _ _ y).mpr ⟨rfl, hp.symm⟩⟩

variable (d : Dev nD)

theorem idx_deal (f : Buf (Elt F) (idxLoc d)) :
    (idxLoc d ↦{fullShare} f : sProp 𝕄) = bigSep Finset.univ fun p => idxLoc d ↦[win (co p)]{fullShare} f := by
  rw [← pointsTo_biUnion Finset.univ (ℓ := idxLoc d) (fun p => win (co p)) win_disjoint]
  exact congrArg (fun I : Finset S1024.Idx => (idxLoc d ↦[I]{fullShare} f : sProp 𝕄)) win_cover.symm

theorem best_deal (f : Buf (Elt F) (bestLoc d)) :
    (bestLoc d ↦{fullShare} f : sProp 𝕄) = bigSep Finset.univ fun p => bestLoc d ↦[win (co p)]{fullShare} f := by
  rw [← pointsTo_biUnion Finset.univ (ℓ := bestLoc d) (fun p => win (co p)) win_disjoint]
  exact congrArg (fun I : Finset S1024.Idx => (bestLoc d ↦[I]{fullShare} f : sProp 𝕄)) win_cover.symm

theorem cls_deal (f : Buf (Elt F) (clsLoc d)) :
    (clsLoc d ↦{fullShare} f : sProp 𝕄) = bigSep Finset.univ fun p => clsLoc d ↦[win (co p)]{fullShare} f := by
  rw [← pointsTo_biUnion Finset.univ (ℓ := clsLoc d) (fun p => win (co p)) win_disjoint]
  exact congrArg (fun I : Finset S1024.Idx => (clsLoc d ↦[I]{fullShare} f : sProp 𝕄)) win_cover.symm

theorem bbox_deal (f : Buf (Elt F) (bboxLoc d)) :
    (bboxLoc d ↦{fullShare} f : sProp 𝕄)
      = bigSep Finset.univ fun p => bigSep Finset.univ fun c : Fin 4 => bboxLoc d ↦[rowWin (co p) c.val]{fullShare} f := by
  rw [← bigSep_univ_prod (fun q : (Fin 2 × Fin 16) × Fin 4 => (bboxLoc d ↦[rowWin (co q.1) q.2.val]{fullShare} f : sProp 𝕄)),
    ← pointsTo_biUnion Finset.univ (ℓ := bboxLoc d) (fun q : (Fin 2 × Fin 16) × Fin 4 => rowWin (co q.1) q.2.val) rowWin_disjoint]
  exact congrArg (fun I : Finset S4x1024.Idx => (bboxLoc d ↦[I]{fullShare} f : sProp 𝕄)) rowWin_cover.symm

theorem score_deal (f : Buf (Elt F) (scoreLoc d)) :
    (scoreLoc d ↦{fullShare} f : sProp 𝕄) = bigSep Finset.univ fun p => scoreLoc d ↦{sh p} f :=
  (pointsTo_leaves Finset.univ f 5 fullShare).trans (bigSep_univ_equiv tileNo _)

theorem box_deal (f : Buf (Elt F) (boxLoc d)) :
    (boxLoc d ↦{fullShare} f : sProp 𝕄) = bigSep Finset.univ fun p => boxLoc d ↦{sh p} f :=
  (pointsTo_leaves Finset.univ f 5 fullShare).trans (bigSep_univ_equiv tileNo _)

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The six arrays of the call. -/
def callRes (ix : Buf (Elt F) (idxLoc d)) (sc : Buf (Elt F) (scoreLoc d)) (bx : Buf (Elt F) (boxLoc d))
    (g0 : Buf (Elt F) (bboxLoc d)) (g1 : Buf (Elt F) (bestLoc d)) (g2 : Buf (Elt F) (clsLoc d)) : sProp 𝕄 :=
  iprop((idxLoc d ↦{fullShare} ix) ∗ (scoreLoc d ↦{fullShare} sc) ∗ (boxLoc d ↦{fullShare} bx)
    ∗ (bestLoc d ↦{fullShare} g1) ∗ (clsLoc d ↦{fullShare} g2) ∗ (bboxLoc d ↦{fullShare} g0))

/-- The six arrays are what the tiles hold between them. -/
theorem deal (ix : Buf (Elt F) (idxLoc d)) (sc : Buf (Elt F) (scoreLoc d)) (bx : Buf (Elt F) (boxLoc d))
    (g0 : Buf (Elt F) (bboxLoc d)) (g1 : Buf (Elt F) (bestLoc d)) (g2 : Buf (Elt F) (clsLoc d)) :
    (callRes d ix sc bx g0 g1 g2 : sProp 𝕄)
      = bigSep Finset.univ fun c : Fin 2 => bigSep Finset.univ fun s : Fin 16 => tileRes d (co (c, s)) (sh (c, s)) (sh (c, s)) ix sc bx g0 g1 g2 := by
  rw [← bigSep_univ_prod (fun p : Fin 2 × Fin 16 => (tileRes d (co p) (sh p) (sh p) ix sc bx g0 g1 g2 : sProp 𝕄))]
  unfold callRes tileRes
  rw [idx_deal, score_deal, box_deal, best_deal, cls_deal, bbox_deal]
  rw [show (fun p => bigSep Finset.univ fun c : Fin 4 => (bboxLoc d ↦[rowWin (co p) c.val]{fullShare} g0 : sProp 𝕄))
    = fun p => iprop((bboxLoc d ↦[rowWin (co p) 0]{fullShare} g0) ∗ (bboxLoc d ↦[rowWin (co p) 1]{fullShare} g0)
        ∗ (bboxLoc d ↦[rowWin (co p) 2]{fullShare} g0) ∗ (bboxLoc d ↦[rowWin (co p) 3]{fullShare} g0)) from
    funext fun p => bigSep_four (fun c : Fin 4 => (bboxLoc d ↦[rowWin (co p) c.val]{fullShare} g0 : sProp 𝕄))]
  simp only [bigSep_sep']

end Cert.Kernel.Tile

end
-- ==== Proof.Host.lean ====
/- The host program around the call: its two lines of operations, and the contents the call is handed and leaves. -/
module

public import proofs.«01_k».proof.Proof.Split
public import Idealize.ShloMosaic.Lib.Pipeline.Frame
public import Idealize.ShloMosaic.Lib.StableHlo.Run

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

/-- The host's operations before the call: the box numbers cut out and padded, the scores and the corners laid flat. -/
def opsBefore : List (HloOp τ sig (Elt F)) := [
  StableHlo.unary main_arg0 main_v0 ((extractStridedSlice S1000x1 ![0, 2] · slices_S1000x3_S1000x1_0_2) : (⟨S1000x3, .i32⟩ : BufTy).Contents (Elt F) → (⟨S1000x1, .i32⟩ : BufTy).Contents (Elt F)),
  StableHlo.reshape main_v0 main_v1 (rfl : (.i32 : EltTy) = .i32) shapeCasts_S1000x1_S1000,
  StableHlo.nullary main_c (constantI S_ 32 0#32),
  StableHlo.TRef.unary (.of main_c : StableHlo.TRef sig ⟨S_, .i32⟩) main_call0.v0 id,
  StableHlo.TRef.binary (.of main_v1 : StableHlo.TRef sig ⟨S1000, .i32⟩) main_call0.v0 main_call0.v1 (fun x v => pad S1024 ![0] ![24] ![0] x v pads_S1000_S1024_0240 h_S_),
  StableHlo.reshape main_arg2 main_v3 (rfl : (.f32 : EltTy) = .f32) shapeCasts_S1x80x20000_S1600000,
  StableHlo.reshape main_arg1 main_v4 (rfl : (.f32 : EltTy) = .f32) shapeCasts_S1x4x20000_S80000]

/-- The host's operations after the call: the results cut to length and put in shape. -/
def opsAfter : List (HloOp τ sig (Elt F)) := [
  StableHlo.unary main_v5_0 main_v6 ((extractStridedSlice S1x1000 ![0, 0] · slices_S4x1024_S1x1000_0_0) : (⟨S4x1024, .f32⟩ : BufTy).Contents (Elt F) → (⟨S1x1000, .f32⟩ : BufTy).Contents (Elt F)),
  StableHlo.reshape main_v6 main_v7 (rfl : (.f32 : EltTy) = .f32) shapeCasts_S1x1000_S1000,
  StableHlo.unary main_v5_0 main_v8 ((extractStridedSlice S1x1000 ![1, 0] · slices_S4x1024_S1x1000_1_0) : (⟨S4x1024, .f32⟩ : BufTy).Contents (Elt F) → (⟨S1x1000, .f32⟩ : BufTy).Contents (Elt F)),
  StableHlo.reshape main_v8 main_v9 (rfl : (.f32 : EltTy) = .f32) shapeCasts_S1x1000_S1000,
  StableHlo.unary main_v5_0 main_v10 ((extractStridedSlice S1x1000 ![2, 0] · slices_S4x1024_S1x1000_2_0) : (⟨S4x1024, .f32⟩ : BufTy).Contents (Elt F) → (⟨S1x1000, .f32⟩ : BufTy).Contents (Elt F)),
  StableHlo.reshape main_v10 main_v11 (rfl : (.f32 : EltTy) = .f32) shapeCasts_S1x1000_S1000,
  StableHlo.unary main_v5_0 main_v12 ((extractStridedSlice S1x1000 ![3, 0] · slices_S4x1024_S1x1000_3_0) : (⟨S4x1024, .f32⟩ : BufTy).Contents (Elt F) → (⟨S1x1000, .f32⟩ : BufTy).Contents (Elt F)),
  StableHlo.reshape main_v12 main_v13 (rfl : (.f32 : EltTy) = .f32) shapeCasts_S1x1000_S1000,
  StableHlo.unary main_v7 main_v14 (broadcastInDim S1000x1 ![0] bcast_S1000_S1000x1_0 : (⟨S1000, .f32⟩ : BufTy).Contents (Elt F) → (⟨S1000x1, .f32⟩ : BufTy).Contents (Elt F)),
  StableHlo.unary main_v9 main_v15 (broadcastInDim S1000x1 ![0] bcast_S1000_S1000x1_0 : (⟨S1000, .f32⟩ : BufTy).Contents (Elt F) → (⟨S1000x1, .f32⟩ : BufTy).Contents (Elt F)),
  StableHlo.unary main_v11 main_v16 (broadcastInDim S1000x1 ![0] bcast_S1000_S1000x1_0 : (⟨S1000, .f32⟩ : BufTy).Contents (Elt F) → (⟨S1000x1, .f32⟩ : BufTy).Contents (Elt F)),
  StableHlo.unary main_v13 main_v17 (broadcastInDim S1000x1 ![0] bcast_S1000_S1000x1_0 : (⟨S1000, .f32⟩ : BufTy).Contents (Elt F) → (⟨S1000x1, .f32⟩ : BufTy).Contents (Elt F)),
  StableHlo.nary ![main_v14, main_v15, main_v16, main_v17] main_v18 (fun u => (concatenate S1000x4 1 [⟨S1000x1, (u 0 : (⟨S1000x1, .f32⟩ : BufTy).Contents (Elt F))⟩, ⟨S1000x1, (u 1 : (⟨S1000x1, .f32⟩ : BufTy).Contents (Elt F))⟩, ⟨S1000x1, (u 2 : (⟨S1000x1, .f32⟩ : BufTy).Contents (Elt F))⟩, ⟨S1000x1, (u 3 : (⟨S1000x1, .f32⟩ : BufTy).Contents (Elt F))⟩] concatenates_S1000x1_S1000x1_S1000x1_S1000x1_S1000x4_d1 : (⟨S1000x4, .f32⟩ : BufTy).Contents (Elt F))),
  StableHlo.unary main_v18 main_v19 (broadcastInDim S1x1000x4 ![1, 2] bcast_S1000x4_S1x1000x4_1_2 : (⟨S1000x4, .f32⟩ : BufTy).Contents (Elt F) → (⟨S1x1000x4, .f32⟩ : BufTy).Contents (Elt F)),
  StableHlo.unary main_v5_1 main_v20 ((extractStridedSlice S1000 ![0] · slices_S1024_S1000_0) : (⟨S1024, .f32⟩ : BufTy).Contents (Elt F) → (⟨S1000, .f32⟩ : BufTy).Contents (Elt F)),
  StableHlo.unary main_v20 main_v21 (broadcastInDim S1x1000 ![1] bcast_S1000_S1x1000_1 : (⟨S1000, .f32⟩ : BufTy).Contents (Elt F) → (⟨S1x1000, .f32⟩ : BufTy).Contents (Elt F)),
  StableHlo.unary main_v5_2 main_v22 ((extractStridedSlice S1000 ![0] · slices_S1024_S1000_0) : (⟨S1024, .i32⟩ : BufTy).Contents (Elt F) → (⟨S1000, .i32⟩ : BufTy).Contents (Elt F)),
  StableHlo.unary main_v22 main_v23 (broadcastInDim S1x1000 ![1] bcast_S1000_S1x1000_1 : (⟨S1000, .i32⟩ : BufTy).Contents (Elt F) → (⟨S1x1000, .i32⟩ : BufTy).Contents (Elt F))]

set_option maxRecDepth 65536 in
/-- The host program is the first line, the call, the second line. -/
theorem main_eq (d : Dev nD) : main (F := F) d = StableHlo.seq opsBefore >>= fun _ => (K (F := F)).run d 0 >>= fun _ => StableHlo.seq opsAfter := by
  rfl

theorem before_sub : (opsBefore (F := F)).Forall fun op => op.bufs ⊆ StableHlo.tcRefs τ sig := by
  refine ⟨?_, ?_, ?_, ?_, ?_, ?_, ?_⟩ <;> first
    | exact StableHlo.unary_bufs_sub _ _ _ _ _ | exact StableHlo.reshape_bufs_sub _ _ _ _ _ _ | exact StableHlo.nullary_bufs_sub _ _ _
    | exact StableHlo.binary_bufs_sub _ _ _ _ _ _ _ | exact StableHlo.nary_bufs_sub _ _ _ _ _

theorem before_fresh : ∀ op ∈ opsBefore (F := F), op.fresh = ∅ :=
  List.forall_iff_forall_mem.mp (StableHlo.forall_fresh_of_map rfl)

theorem after_sub : (opsAfter (F := F)).Forall fun op => op.bufs ⊆ StableHlo.tcRefs τ sig := by
  refine ⟨?_, ?_, ?_, ?_, ?_, ?_, ?_, ?_, ?_, ?_, ?_, ?_, ?_, ?_, ?_, ?_, ?_, ?_⟩ <;> first
    | exact StableHlo.unary_bufs_sub _ _ _ _ _ | exact StableHlo.reshape_bufs_sub _ _ _ _ _ _ | exact StableHlo.nullary_bufs_sub _ _ _
    | exact StableHlo.binary_bufs_sub _ _ _ _ _ _ _ | exact StableHlo.nary_bufs_sub _ _ _ _ _

theorem after_fresh : ∀ op ∈ opsAfter (F := F), op.fresh = ∅ :=
  List.forall_iff_forall_mem.mp (StableHlo.forall_fresh_of_map rfl)

/-- What the call leaves of contents `W`: the three results rewritten. -/
def called (W : Valuation τ sig (Elt F)) : Valuation τ sig (Elt F) :=
  Function.update (Function.update (Function.update W
    (Proc.devRef .tc main_v5_0) (bbAll (W (Proc.devRef .tc main_v2) : S1024.Idx → BitVec 32) (W (Proc.devRef .tc main_v4) : S80000.Idx → F .f32)))
    (Proc.devRef .tc main_v5_1) (bestAll (W (Proc.devRef .tc main_v2) : S1024.Idx → BitVec 32) (W (Proc.devRef .tc main_v3) : S1600000.Idx → F .f32)))
    (Proc.devRef .tc main_v5_2) (clsAll (W (Proc.devRef .tc main_v2) : S1024.Idx → BitVec 32) (W (Proc.devRef .tc main_v3) : S1600000.Idx → F .f32))

/-- The arrays the call is handed. -/
def callRefs : Finset (Ref sig .tc) := {main_v2, main_v3, main_v4, main_v5_1, main_v5_2, main_v5_0}

/-- The same, as a device's buffers. -/
def callBufs : Finset (DevRef τ sig) := callRefs.map ⟨Proc.devRef .tc, Proc.devRef_injective _⟩

theorem callBufs_sub : callBufs ⊆ Pipeline.ucRefs τ sig := by
  intro b hb
  obtain ⟨r, hr, rfl⟩ := Finset.mem_map.mp hb
  refine Finset.mem_filter.mpr ⟨StableHlo.devRef_mem_tcRefs r, ?_⟩
  revert r
  decide

theorem held_callBufs (d : Dev nD) (W : Valuation τ sig (Elt F)) : (StableHlo.held (T d) callBufs W : sProp 𝕄)
    = callRes d (W (Proc.devRef .tc main_v2)) (W (Proc.devRef .tc main_v3)) (W (Proc.devRef .tc main_v4))
        (W (Proc.devRef .tc main_v5_0)) (W (Proc.devRef .tc main_v5_1)) (W (Proc.devRef .tc main_v5_2)) := by
  unfold StableHlo.held callBufs callRefs callRes
  rw [bigSep_map, SparseCore.bigSep_insert' (by decide), SparseCore.bigSep_insert' (by decide), SparseCore.bigSep_insert' (by decide),
    SparseCore.bigSep_insert' (by decide), SparseCore.bigSep_insert' (by decide), bigSep_singleton]
  rfl

theorem called_of_ne (W : Valuation τ sig (Elt F)) (b : DevRef τ sig) (h0 : b ≠ Proc.devRef .tc main_v5_0) (h1 : b ≠ Proc.devRef .tc main_v5_1)
    (h2 : b ≠ Proc.devRef .tc main_v5_2) : called W b = W b := by
  unfold called
  rw [Function.update_of_ne h2, Function.update_of_ne h1, Function.update_of_ne h0]

theorem called_bbox (W : Valuation τ sig (Elt F)) : called W (Proc.devRef .tc main_v5_0)
    = bbAll (W (Proc.devRef .tc main_v2) : S1024.Idx → BitVec 32) (W (Proc.devRef .tc main_v4) : S80000.Idx → F .f32) := by
  unfold called
  rw [Function.update_of_ne (StableHlo.devRef_ne_of_ne (by decide)), Function.update_of_ne (StableHlo.devRef_ne_of_ne (by decide)), Function.update_self]

theorem called_best (W : Valuation τ sig (Elt F)) : called W (Proc.devRef .tc main_v5_1)
    = bestAll (W (Proc.devRef .tc main_v2) : S1024.Idx → BitVec 32) (W (Proc.devRef .tc main_v3) : S1600000.Idx → F .f32) := by
  unfold called
  rw [Function.update_of_ne (StableHlo.devRef_ne_of_ne (by decide)), Function.update_self]

theorem called_cls (W : Valuation τ sig (Elt F)) : called W (Proc.devRef .tc main_v5_2)
    = clsAll (W (Proc.devRef .tc main_v2) : S1024.Idx → BitVec 32) (W (Proc.devRef .tc main_v3) : S1600000.Idx → F .f32) := by
  unfold called
  rw [Function.update_self]

/-- The call's arrays back, with the buffers that stayed, are all the buffers at the contents the call leaves. -/
theorem held_called (d : Dev nD) (W : Valuation τ sig (Elt F)) :
    (StableHlo.held (T d) (Pipeline.ucRefs τ sig) (called W) : sProp 𝕄)
      = iprop(callRes d (W (Proc.devRef .tc main_v2)) (W (Proc.devRef .tc main_v3)) (W (Proc.devRef .tc main_v4))
          (bbAll (W (Proc.devRef .tc main_v2) : S1024.Idx → BitVec 32) (W (Proc.devRef .tc main_v4) : S80000.Idx → F .f32))
          (bestAll (W (Proc.devRef .tc main_v2) : S1024.Idx → BitVec 32) (W (Proc.devRef .tc main_v3) : S1600000.Idx → F .f32))
          (clsAll (W (Proc.devRef .tc main_v2) : S1024.Idx → BitVec 32) (W (Proc.devRef .tc main_v3) : S1600000.Idx → F .f32))
        ∗ StableHlo.held (T d) (Pipeline.ucRefs τ sig \ callBufs) W) := by
  rw [StableHlo.held_sub_split (T d) callBufs_sub, held_callBufs]
  rw [called_bbox, called_best, called_cls]
  rw [called_of_ne W (Proc.devRef .tc main_v2) (StableHlo.devRef_ne_of_ne (by decide)) (StableHlo.devRef_ne_of_ne (by decide)) (StableHlo.devRef_ne_of_ne (by decide)),
    called_of_ne W (Proc.devRef .tc main_v3) (StableHlo.devRef_ne_of_ne (by decide)) (StableHlo.devRef_ne_of_ne (by decide)) (StableHlo.devRef_ne_of_ne (by decide)),
    called_of_ne W (Proc.devRef .tc main_v4) (StableHlo.devRef_ne_of_ne (by decide)) (StableHlo.devRef_ne_of_ne (by decide)) (StableHlo.devRef_ne_of_ne (by decide))]
  rw [StableHlo.held_congr (T d) (S := Pipeline.ucRefs τ sig \ callBufs) (V := called W) (V' := W) fun b hb => called_of_ne W b ?_ ?_ ?_]
  all_goals
    rintro rfl
    refine (Finset.mem_sdiff.mp hb).2 (Finset.mem_map.mpr ⟨_, ?_, rfl⟩)
    decide

end Cert.Kernel.Tile

end
-- ==== Proof.RolledEq.lean ====
/- The printed kernel function, at the buffers the launch names, is the tile's program. -/
module

public import proofs.«01_k».proof.Proof.Rolled

@[expose] public section

noncomputable section

namespace Cert.Kernel.Tile

open Idealize.ShloMosaic Idealize.SL.Sem Cert.Kernel.Gen

variable {F : FTy → Type} [FloatOps F]

set_option maxRecDepth 200000 in
set_option maxHeartbeats 4000000 in
/-- The printed kernel function at the launch's buffers. -/
theorem rolled_eq (i : grid0.Coords) :
    cc0__postprocess_sc (F := F) i (Memref.whole main_v2_scv) (Memref.isWhole_whole _) (Memref.whole main_v3_scv) (Memref.isWhole_whole _)
      (Memref.whole main_v4_scv) (Memref.isWhole_whole _) (Memref.whole main_v5_0_scv) (Memref.isWhole_whole _) (Memref.whole main_v5_1_scv) (Memref.isWhole_whole _)
      (Memref.whole main_v5_2_scv) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      cc0_scratch8 cc0_scoped0 cc0_scoped1 cc0_scoped2 cc0_scoped3 cc0_scoped4 cc0_scoped5 cc0_scoped6 = rolled i := by
  rfl

end Cert.Kernel.Tile

end
-- ==== Proof.Launch.lean ====
/- The launch: each tile runs from what it is dealt to its results, and the host program runs around the call. -/
module

public import proofs.«01_k».proof.Proof.Host
public import proofs.«01_k».proof.Proof.RolledEq
public import Idealize.ShloMosaic.Lib.SparseCore.Quiescent

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Cert.Kernel.Gen

variable {F : FTy → Type} [FloatOps F]

local notation "𝕄" => MT nD τ sig (HIx 1) (Elt F) ℕ UU ℕ

variable (W : Dev nD → Valuation τ sig (Elt F))

/-- A tile's holdings before the call at contents `W`. -/
def held₀ (d : Dev nD) (c : Fin 2) (s : Fin 16) : sProp 𝕄 :=
  tileRes d (co (c, s)) (sh (c, s)) (sh (c, s)) (W d (Proc.devRef .tc main_v2)) (W d (Proc.devRef .tc main_v3)) (W d (Proc.devRef .tc main_v4))
    (W d (Proc.devRef .tc main_v5_0)) (W d (Proc.devRef .tc main_v5_1)) (W d (Proc.devRef .tc main_v5_2))

/-- A tile's holdings after it. -/
def held₁ (d : Dev nD) (c : Fin 2) (s : Fin 16) : sProp 𝕄 :=
  tileRes d (co (c, s)) (sh (c, s)) (sh (c, s)) (W d (Proc.devRef .tc main_v2)) (W d (Proc.devRef .tc main_v3)) (W d (Proc.devRef .tc main_v4))
    (bbAll (W d (Proc.devRef .tc main_v2) : S1024.Idx → BitVec 32) (W d (Proc.devRef .tc main_v4) : S80000.Idx → F .f32))
    (bestAll (W d (Proc.devRef .tc main_v2) : S1024.Idx → BitVec 32) (W d (Proc.devRef .tc main_v3) : S1600000.Idx → F .f32))
    (clsAll (W d (Proc.devRef .tc main_v2) : S1024.Idx → BitVec 32) (W d (Proc.devRef .tc main_v3) : S1600000.Idx → F .f32))

instance held₀_storable (d : Dev nD) (c : Fin 2) (s : Fin 16) : BI.Storable (upEmb : UEmb _ 𝕄) (held₀ W d c s) := by
  unfold held₀ tileRes; infer_instance

instance held₁_storable (d : Dev nD) (c : Fin 2) (s : Fin 16) : BI.Storable (upEmb : UEmb _ 𝕄) (held₁ W d c s) := by
  unfold held₁ tileRes; infer_instance

/-- What the call's signals carry: to a SparseCore its tiles' holdings, to a tile its own, and back. -/
def P : (K (F := F)).Pay (nD := nD) (Val := Elt F) (Name := ℕ) (U := UU) where
  st := fun q d c => match q with
    | 0 => bigSep Finset.univ fun s : Fin ((K (F := F)).nSub 0) => held₀ W d (Fin.cast nCore_zero c) (Fin.cast nSub_zero s)
  dn := fun q d c => match q with
    | 0 => bigSep Finset.univ fun s : Fin ((K (F := F)).nSub 0) => held₁ W d (Fin.cast nCore_zero c) (Fin.cast nSub_zero s)
  go := fun q d c s => match q with
    | 0 => held₀ W d (Fin.cast nCore_zero c) (Fin.cast nSub_zero s)
  td := fun q d c s => match q with
    | 0 => held₁ W d (Fin.cast nCore_zero c) (Fin.cast nSub_zero s)
  x := fun _ _ => iprop(emp)

instance P_storable : (P (F := F) W).IsStorable where
  st q d c := match q with
    | 0 => (inferInstance : BI.Storable (upEmb : UEmb _ 𝕄)
      (bigSep Finset.univ fun s : Fin ((K (F := F)).nSub 0) => held₀ W d (Fin.cast nCore_zero c) (Fin.cast nSub_zero s)))
  dn q d c := match q with
    | 0 => (inferInstance : BI.Storable (upEmb : UEmb _ 𝕄)
      (bigSep Finset.univ fun s : Fin ((K (F := F)).nSub 0) => held₁ W d (Fin.cast nCore_zero c) (Fin.cast nSub_zero s)))
  go q d c s := match q with
    | 0 => (inferInstance : BI.Storable (upEmb : UEmb _ 𝕄) (held₀ W d (Fin.cast nCore_zero c) (Fin.cast nSub_zero s)))
  td q d c s := match q with
    | 0 => (inferInstance : BI.Storable (upEmb : UEmb _ 𝕄) (held₁ W d (Fin.cast nCore_zero c) (Fin.cast nSub_zero s)))

/-- Every position the call is handed is a box's. -/
def InRange : Prop := ∀ (d : Dev nD) (y : S1024.Idx), ((W d (Proc.devRef .tc main_v2) : S1024.Idx → BitVec 32) y).toNat < 20000

theorem waits_weaken {thr : Thread nD τ} {A B C : sProp 𝕄} {O : CellTallies nD τ sig (HIx 1)} {W₀ : Waits sig (HIx 1)} {q : Fin 1} :
    iprop(A ∗ B ∗ C ∗ ∃ W', ⌜∀ p ∈ W', p ∈ W₀ ∨ p.2 = none⌝ ∗ owes thr O W')
      ⊢ iprop(A ∗ B ∗ C ∗ ∃ W', ⌜∀ p ∈ W', p ∈ W₀ ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem body_vector (c : Fin 2) (s : Fin 16) :
    defs₀ (F := F) (.scVector (c.castLE hcore0) (s.castLE hsub0)) 0 () = rolled (co (c, s)) :=
  (show defs₀ (F := F) (.scVector (c.castLE hcore0) (s.castLE hsub0)) 0 () = cc0__postprocess_sc (F := F) (co (c, s)) (Memref.whole main_v2_scv) (Memref.isWhole_whole _) (Memref.whole main_v3_scv) (Memref.isWhole_whole _)
      (Memref.whole main_v4_scv) (Memref.isWhole_whole _) (Memref.whole main_v5_0_scv) (Memref.isWhole_whole _) (Memref.whole main_v5_1_scv) (Memref.isWhole_whole _)
      (Memref.whole main_v5_2_scv) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      (Memref.whole cc0_scratch5) (Memref.isWhole_whole _) (Memref.whole cc0_scratch6) (Memref.isWhole_whole _) (Memref.whole cc0_scratch7) (Memref.isWhole_whole _)
      cc0_scratch8 cc0_scoped0 cc0_scoped1 cc0_scoped2 cc0_scoped3 cc0_scoped4 cc0_scoped5 cc0_scoped6 from by
    have h : (c.castLE hcore0).val < grid0.bound 0 ∧ (s.castLE hsub0).val < grid0.bound 1 := ⟨c.isLt, s.isLt⟩
    unfold defs₀ SparseCore.onTile
    simp only [h, and_self, ↓reduceDIte]
    rfl).trans (rolled_eq (co (c, s)))

set_option maxRecDepth 16384 in
theorem tileObl (hW : InRange W) : (K (F := F)).TileObl (D (F := F)) 𝒱 (P W) v₀ 0 := by
  intro d c i O W₀ hO _ _
  simp only [show (P W).ox = fun _ _ => 0 from rfl, add_zero]
  change _ ⊢ wp _ _ _ (Pipeline.liftProg (defs₀ (F := F) (.scVector ((Fin.cast nCore_zero c).castLE hcore0) ((Fin.cast nSub_zero i).castLE hsub0)) 0 ())) _
  refine BI.Entails.trans ?_ (Pipeline.wp_liftProg (D (F := F)) (Pipeline.defs_kernel pcfgs defs₀) 𝒱₀ _ Set.univ none _ _)
  rw [body_vector]
  exact (tile_body d (co (Fin.cast nCore_zero c, Fin.cast nSub_zero i)) (sh (Fin.cast nCore_zero c, Fin.cast nSub_zero i)) (sh (Fin.cast nCore_zero c, Fin.cast nSub_zero i))
    _ _ _ _ _ _ (hW d) O W₀ hO).trans (wp_mono frame _ _ fun _ => waits_weaken)

theorem vecSplit : (K (F := F)).VecSplit' (P W) 0 := by
  intro d c
  show (bigSep Finset.univ fun s : Fin ((K (F := F)).nSub 0) => held₀ W d (Fin.cast nCore_zero c) (Fin.cast nSub_zero s))
    ⊢ |={Set.univ}=> iprop((bigSep Finset.univ fun s : Fin ((K (F := F)).nSub 0) => held₀ W d (Fin.cast nCore_zero c) (Fin.cast nSub_zero s))
      ∗ ((bigSep Finset.univ fun s : Fin ((K (F := F)).nSub 0) => held₁ W d (Fin.cast nCore_zero c) (Fin.cast nSub_zero s))
        -∗ bigSep Finset.univ fun s : Fin ((K (F := F)).nSub 0) => held₁ W d (Fin.cast nCore_zero c) (Fin.cast nSub_zero s)))
  iintro H
  imodintro
  isplitl [H]; · iexact H
  iintro H
  iexact H

theorem st_eq (d : Dev nD) : (bigSep Finset.univ fun c : Fin ((K (F := F)).nCore 0) => (P W).st 0 d c)
    = callRes d (W d (Proc.devRef .tc main_v2)) (W d (Proc.devRef .tc main_v3)) (W d (Proc.devRef .tc main_v4))
        (W d (Proc.devRef .tc main_v5_0)) (W d (Proc.devRef .tc main_v5_1)) (W d (Proc.devRef .tc main_v5_2)) :=
  (deal d _ _ _ _ _ _).symm

theorem dn_eq (d : Dev nD) : (bigSep Finset.univ fun c : Fin ((K (F := F)).nCore 0) => (P W).dn 0 d c)
    = callRes d (W d (Proc.devRef .tc main_v2)) (W d (Proc.devRef .tc main_v3)) (W d (Proc.devRef .tc main_v4))
        (bbAll (W d (Proc.devRef .tc main_v2) : S1024.Idx → BitVec 32) (W d (Proc.devRef .tc main_v4) : S80000.Idx → F .f32))
        (bestAll (W d (Proc.devRef .tc main_v2) : S1024.Idx → BitVec 32) (W d (Proc.devRef .tc main_v3) : S1600000.Idx → F .f32))
        (clsAll (W d (Proc.devRef .tc main_v2) : S1024.Idx → BitVec 32) (W d (Proc.devRef .tc main_v3) : S1600000.Idx → F .f32)) :=
  (deal d _ _ _ _ _ _).symm

/-! ## The ghost state at the start -/

/-- The handshakes' rounds at the start, and no transfer counted. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P W).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) W).x q thr) = (iprop(emp) : sProp 𝕄) from
    (bigSep_congr fun _ _ => bigSep_univ_of_subsingleton (0 : Fin 1)).trans (bigSep_emp_const _)]
  iempintro

/-! ## The host program -/

section Run

variable (m : (ℓ : Loc nD τ sig) → Buf (Elt F) ℓ) (ρ : Dev nD → PrngReg)

/-- The contents at the start. -/
def atStart (d : Dev nD) : Valuation τ sig (Elt F) := fun b => m (d, b)

/-- The contents the call is handed. -/
def atCall (d : Dev nD) : Valuation τ sig (Elt F) := StableHlo.after opsBefore (atStart m d)

/-- The contents at the end. -/
def atEnd (d : Dev nD) : Valuation τ sig (Elt F) := StableHlo.after opsAfter (called (atCall m d))

/-- What the host program ends with: every buffer of the host at its last contents. -/
abbrev FIN (d : Dev nD) : sProp 𝕄 := StableHlo.held (T d) (Pipeline.ucRefs τ sig) (atEnd m d)

theorem start_held (d : Dev nD) : (unscopedBufs d (fun b => m ((SparseCore.T d).loc b)) : sProp 𝕄)
    = StableHlo.held (T d) (Pipeline.ucRefs τ sig) (atStart m d) :=
  Pipeline.unscopedBufs_held d (atStart m d)

theorem call_held (d : Dev nD) : (StableHlo.held (T d) (Pipeline.ucRefs τ sig) (StableHlo.after opsBefore (atStart m d)) : sProp 𝕄)
    = iprop((bigSep Finset.univ fun c : Fin ((K (F := F)).nCore 0) => (P (atCall m)).st 0 d c)
      ∗ StableHlo.held (T d) (Pipeline.ucRefs τ sig \ callBufs) (atCall m d)) := by
  rw [st_eq, ← held_callBufs, ← StableHlo.held_sub_split (T d) callBufs_sub]
  rfl

theorem hmain (κ : GSem nD τ sig → ℕ) (d : Dev nD) :
    iprop((K (F := F)).ctx EH (P (atCall m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_held, main_eq]
  iintro ⟨#Hctx, Hst, ⟨Hb, Hh, Hts, -⟩, -⟩
  iapply (StableHlo.wp_seq 𝒱 none Set.univ d (Pipeline.ucRefs τ sig) _ opsBefore
    (fun op h => Pipeline.sub_ucRefs op (List.forall_iff_forall_mem.mp before_sub op h)) before_fresh _) $$ [Hb Hh]
  · isplitl [Hb]; · iexact Hb
    iexact Hh
  iintro ⟨Hb, Hh⟩
  ihave Hh' := (Entails.of_eq (call_held m d)) $$ Hh
  icases Hh' with ⟨Hc, Hr⟩
  rw [wp_bind]
  iapply ((K (F := F)).wp_run (D (F := F)) 𝒱 (EH := EH) (P := P (atCall m)) κ d 0) $$ [Hst Hc Hr Hb Hts]
  isplitr; · iexact Hctx
  isplitl [Hst]; · iexact Hst
  isplitl [Hc]; · iexact Hc
  iintro ⟨Hst, Hdn⟩
  ihave Hdn' := (Entails.of_eq (dn_eq (atCall m) d)) $$ Hdn
  rw [show StableHlo.seq (Λ := SparseCore.Sig (ΛP (F := F)) 1) (nD := nD) (opsAfter (F := F)) = (StableHlo.seq opsAfter >>= fun u => Pure.pure u) from (bind_pure _).symm]
  iapply (StableHlo.wp_seq 𝒱 none Set.univ d (Pipeline.ucRefs τ sig) _ opsAfter
    (fun op h => Pipeline.sub_ucRefs op (List.forall_iff_forall_mem.mp after_sub op h)) after_fresh (called (atCall m d))) $$ [Hb Hdn' Hr]
  · isplitl [Hb]; · iexact Hb
    iapply (Entails.of_eq (held_called d (atCall m d)).symm)
    isplitl [Hdn']; · iexact Hdn'
    iexact Hr
  iintro ⟨Hb, Hh⟩
  rw [wp_pure]
  imodintro
  isplitl [Hst]; · iexact Hst
  isplitl [Hh]; · iexact Hh
  isplitl [Hb] <;> iassumption

/-- Every buffer of the host at its last contents. -/
def Ends (d : Dev nD) (s : MemSt nD τ sig (Elt F)) : Prop := ∀ b ∈ Pipeline.ucRefs τ sig, s.mem (d, b) = atEnd m d b

theorem hfin (d : Dev nD) (s' : Phys nD τ sig (Elt F)) : iprop(FIN m d ∗ SI s') ⊢ (⌜Ends m d s'.mem⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-- From contents with every position in range, the program ends with the host's buffers at their last contents and every
    semaphore at zero. -/
theorem run_main [∀ e, Nonempty (Elt F e)] (hW : InRange (atCall m)) :
    θ_run (Cert.Kernel.defs (F := F)) (Cert.Kernel.threads (F := F)) ⟨m, fun _ => 0, ρ⟩ (fun r => (∀ d, Ends m d r.2) ∧ r.2.sem = fun _ => 0) :=
  SparseCore.Cfg.θ_run_sc_quiescent (K := K (F := F)) (D := D (F := F)) (𝒱 := 𝒱) (EH := EH) (P := P (atCall m)) (A := ∅) launchFacts v₀
    (fun q hq => match q with | 0 => nomatch hq)
    (fun q _ => match q with | 0 => tileObl (atCall m) hW)
    (fun q _ => match q with | 0 => SparseCore.Cfg.VecSplit.of_plain (vecSplit (atCall m)))
    m ρ main (fun _ => iprop(emp)) (FIN m) (u₀ (F := F)) (sep_elim_left.trans (hu₀ (atCall m))) (hmain m ρ) (fun d s' => Ends m d s'.mem) (hfin m)
    (fun r => (∀ d, Ends m d r.2) ∧ r.2.sem = fun _ => 0) (fun _ h hz => ⟨h, hz⟩)

end Run

end Cert.Kernel.Tile

end
-- ==== Proof.HostVals.lean ====
/- What the host hands the call and what it makes of the results, entry by entry. -/
module

public import proofs.«01_k».proof.Proof.Host

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Cert.Kernel.Gen

variable {F : FTy → Type} [FloatOps F]

local notation "𝕄" => MT nD τ sig (HIx 1) (Elt F) ℕ UU ℕ

theorem call_ix (V : Valuation τ sig (Elt F)) : StableHlo.after opsBefore V (Proc.devRef .tc main_v2)
    = pad S1024 ![0] ![24] ![0] (shapeCast S1000 (extractStridedSlice S1000x1 ![0, 2] (V (Proc.devRef .tc main_arg0) : S1000x3.Idx → BitVec 32) slices_S1000x3_S1000x1_0_2) shapeCasts_S1000x1_S1000)
        (constantI S_ 32 0#32) pads_S1000_S1024_0240 h_S_ := by
  delta opsBefore
  after_results_simp
  rfl

theorem call_scores (V : Valuation τ sig (Elt F)) : StableHlo.after opsBefore V (Proc.devRef .tc main_v3)
    = shapeCast S1600000 (V (Proc.devRef .tc main_arg2) : S1x80x20000.Idx → F .f32) shapeCasts_S1x80x20000_S1600000 := by
  delta opsBefore
  after_results_simp
  rfl

theorem call_boxes (V : Valuation τ sig (Elt F)) : StableHlo.after opsBefore V (Proc.devRef .tc main_v4)
    = shapeCast S80000 (V (Proc.devRef .tc main_arg1) : S1x4x20000.Idx → F .f32) shapeCasts_S1x4x20000_S80000 := by
  delta opsBefore
  after_results_simp
  rfl

theorem before_kept (V : Valuation τ sig (Elt F)) (r : Ref sig .tc)
    (h : r ∉ [main_v0, main_v1, main_c, main_call0_v0, main_v2, main_v3, main_v4]) :
    StableHlo.after opsBefore V (Proc.devRef .tc r) = V (Proc.devRef .tc r) :=
  StableHlo.after_of_writes_sub opsBefore V (StableHlo.forall_writes_sub_of_map rfl) h

theorem after_kept (V : Valuation τ sig (Elt F)) (r : Ref sig .tc)
    (h : r ∉ [main_v6, main_v7, main_v8, main_v9, main_v10, main_v11, main_v12, main_v13, main_v14, main_v15, main_v16, main_v17, main_v18, main_v19,
      main_v20, main_v21, main_v22, main_v23]) :
    StableHlo.after opsAfter V (Proc.devRef .tc r) = V (Proc.devRef .tc r) :=
  StableHlo.after_of_writes_sub opsAfter V (StableHlo.forall_writes_sub_of_map rfl) h

/-- Row `r` of the corners, cut to length, as a column. -/
def column (b : S4x1024.Idx → F .f32) (o : Fin 2 → ℕ) (h : S4x1024.Slices o S1x1000) : S1000x1.Idx → F .f32 :=
  broadcastInDim S1000x1 ![0] bcast_S1000_S1000x1_0 (shapeCast S1000 (extractStridedSlice S1x1000 o b h) shapeCasts_S1x1000_S1000)

theorem end_bbox (V : Valuation τ sig (Elt F)) : StableHlo.after opsAfter V (Proc.devRef .tc main_v19)
    = broadcastInDim S1x1000x4 ![1, 2] bcast_S1000x4_S1x1000x4_1_2 (concatenate S1000x4 1
        [⟨S1000x1, column (V (Proc.devRef .tc main_v5_0)) ![0, 0] slices_S4x1024_S1x1000_0_0⟩,
         ⟨S1000x1, column (V (Proc.devRef .tc main_v5_0)) ![1, 0] slices_S4x1024_S1x1000_1_0⟩,
         ⟨S1000x1, column (V (Proc.devRef .tc main_v5_0)) ![2, 0] slices_S4x1024_S1x1000_2_0⟩,
         ⟨S1000x1, column (V (Proc.devRef .tc main_v5_0)) ![3, 0] slices_S4x1024_S1x1000_3_0⟩]
        concatenates_S1000x1_S1000x1_S1000x1_S1000x1_S1000x4_d1) := by
  delta opsAfter
  after_results_simp
  rfl

theorem end_best (V : Valuation τ sig (Elt F)) : StableHlo.after opsAfter V (Proc.devRef .tc main_v21)
    = broadcastInDim S1x1000 ![1] bcast_S1000_S1x1000_1
        (extractStridedSlice S1000 ![0] (V (Proc.devRef .tc main_v5_1) : S1024.Idx → F .f32) slices_S1024_S1000_0) := by
  delta opsAfter
  after_results_simp

theorem end_cls (V : Valuation τ sig (Elt F)) : StableHlo.after opsAfter V (Proc.devRef .tc main_v23)
    = broadcastInDim S1x1000 ![1] bcast_S1000_S1x1000_1
        (extractStridedSlice S1000 ![0] (V (Proc.devRef .tc main_v5_2) : S1024.Idx → BitVec 32) slices_S1024_S1000_0) := by
  delta opsAfter
  after_results_simp

end Cert.Kernel.Tile

end
-- ==== Proof.Spec.lean ====
/- The results as plain functions of the arguments: what both programs are shown to compute. -/
module

public import proofs.«01_k».proof.Proof.Values
public import Idealize.ShloMosaic.Lib.KernelVsHost
public import Idealize.ShloMosaic.Lib.ValueIdxCore
public import Idealize.ShloMosaic.Lib.StableHlo.Predicate

@[expose] public section

noncomputable section

namespace Cert.Kernel.Tile

open Idealize.ShloMosaic Idealize.ShloMosaic.ValueIdx Idealize.SL.Sem Cert.Kernel.Gen

variable {F : FTy → Type} [FloatOps F]

/-- Entry `(0, k, r)` of an array of `n` rows of 20000, both counted round. -/
def at3 {α : Type} {n : ℕ} [NeZero n] (s : (⟨3, ![1, n, 20000]⟩ : Shape).Idx → α) (k r : ℕ) : α :=
  s (ix3 0 ⟨k % n, Nat.mod_lt k (NeZero.pos n)⟩ ⟨r % 20000, Nat.mod_lt r (by decide)⟩)

theorem at3_val {α : Type} {n : ℕ} [NeZero n] (s : (⟨3, ![1, n, 20000]⟩ : Shape).Idx → α) (y : (⟨3, ![1, n, 20000]⟩ : Shape).Idx) :
    at3 s (y 1).val (y 2).val = s y := by
  unfold at3; congr 1; funext a
  match a with
  | ⟨0, _⟩ => exact Fin.ext (by have h := (y 0).isLt; change (y 0).val < 1 at h; show 0 = (y 0).val; omega)
  | ⟨1, _⟩ => exact Fin.ext (Nat.mod_eq_of_lt (y 1).isLt)
  | ⟨2, _⟩ => exact Fin.ext (Nat.mod_eq_of_lt (y 2).isLt)

theorem at3_eq {α : Type} {n : ℕ} [NeZero n] (s : (⟨3, ![1, n, 20000]⟩ : Shape).Idx → α) (y : (⟨3, ![1, n, 20000]⟩ : Shape).Idx) (k r : ℕ)
    (hk : (y 1).val = k) (hr : (y 2).val = r) : s y = at3 s k r := by rw [← hk, ← hr, at3_val]

/-- The position detection `k` picks: the third entry of its row. -/
def pick (a : (⟨2, ![1000, 3]⟩ : Shape).Idx → BitVec 32) (k : ℕ) : BitVec 32 := a (ix2 ⟨k % 1000, Nat.mod_lt k (by decide)⟩ 2)

theorem pick_eq (a : (⟨2, ![1000, 3]⟩ : Shape).Idx → BitVec 32) (y : (⟨2, ![1000, 3]⟩ : Shape).Idx) (k : ℕ) (hk : (y 0).val = k) (h2 : (y 1).val = 2) :
    a y = pick a k := by
  unfold pick; congr 1; funext c
  match c with
  | ⟨0, _⟩ => exact Fin.ext (by have h := (y 0).isLt; change (y 0).val < 1000 at h; show (y 0).val = k % 1000; omega)
  | ⟨1, _⟩ => exact Fin.ext h2

/-- The corners of every detection. -/
def outBox (a : (⟨2, ![1000, 3]⟩ : Shape).Idx → BitVec 32) (b : (⟨3, ![1, 4, 20000]⟩ : Shape).Idx → F .f32) : (⟨3, ![1, 1000, 4]⟩ : Shape).Idx → F .f32 :=
  fun y => corner (fun k => at3 b k (pick a (y 1).val).toNat) (y 2).val
/-- The best score of every detection. -/
def outBest (a : (⟨2, ![1000, 3]⟩ : Shape).Idx → BitVec 32) (s : (⟨3, ![1, 80, 20000]⟩ : Shape).Idx → F .f32) : (⟨2, ![1, 1000]⟩ : Shape).Idx → F .f32 :=
  fun y => (best fun k => at3 s k (pick a (y 1).val).toNat).1
/-- The class of the best score of every detection. -/
def outCls (a : (⟨2, ![1000, 3]⟩ : Shape).Idx → BitVec 32) (s : (⟨3, ![1, 80, 20000]⟩ : Shape).Idx → F .f32) : (⟨2, ![1, 1000]⟩ : Shape).Idx → BitVec 32 :=
  fun y => (best fun k => at3 s k (pick a (y 1).val).toNat).2

theorem scan_congr (f g : ℕ → F .f32) (n k : ℕ) (m : F .f32) (a : BitVec 32) (h : ∀ i, i < k + n → f i = g i) : scan f n k m a = scan g n k m a := by
  induction n generalizing k m a with
  | zero => rfl
  | succ n ih => rw [scan, scan, h k (by omega)]; exact ih _ _ _ fun i hi => h i (by omega)

theorem best_congr (f g : ℕ → F .f32) (h : ∀ i, i < 80 → f i = g i) : best f = best g := by
  unfold best; rw [h 0 (by decide)]; exact scan_congr f g _ _ _ _ fun i hi => h i (by omega)

theorem corner_congr (f g : ℕ → F .f32) (h : ∀ i, i < 4 → f i = g i) (c : ℕ) (hc : c < 4) : corner f c = corner g c := by
  unfold corner
  by_cases h2 : c < 2
  · rw [if_pos h2, if_pos h2, h c hc, h (c + 2) (by omega)]
  · rw [if_neg h2, if_neg h2, h c hc, h (c - 2) (by omega)]

end Cert.Kernel.Tile

end
-- ==== Proof.HostEntries.lean ====
/- The host's lines entry by entry: the positions handed to the call, and the results made of what it returns. -/
module

public import proofs.«01_k».proof.Proof.HostVals
public import proofs.«01_k».proof.Proof.Spec

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx
open Cert.Kernel.Gen

variable {F : FTy → Type} [FloatOps F]

local notation "𝕄" => MT nD τ sig (HIx 1) (Elt F) ℕ UU ℕ

/-- A flattened array read at row `k`, position `r`. -/
theorem nth_flat {α : Type} {n N : ℕ} [NeZero n] [NeZero N] (s : (⟨3, ![1, n, 20000]⟩ : Shape).Idx → α) (h : (⟨3, ![1, n, 20000]⟩ : Shape).ShapeCasts ⟨1, ![N]⟩)
    (hN : N = n * 20000) (k r : ℕ) (hk : k < n) (hr : r < 20000) : nth (n := N) (shapeCast ⟨1, ![N]⟩ s h) (r + 20000 * k) = at3 s k r := by
  have hlt : r + 20000 * k < N := by subst hN; nlinarith
  unfold nth
  refine shapeCast_apply s h _ _ ?_
  rw [Shape.rowMajor_val_one, Shape.rowMajor_val_three]
  show (0 * n + k % n) * 20000 + r % 20000 = (r + 20000 * k) % N
  rw [Nat.mod_eq_of_lt hk, Nat.mod_eq_of_lt hr, Nat.mod_eq_of_lt hlt]
  omega

theorem shifted (v : BitVec 32) (hv : v.toNat < 20000) (k : ℕ) (hk : k < 80) : (v + BitVec.ofNat 32 (20000 * k)).toNat = v.toNat + 20000 * k := by
  rw [BitVec.toNat_add, BitVec.toNat_ofNat]; omega

/-- The positions handed to the call: the detections' own, then zeros. -/
def positions (a : S1000x3.Idx → BitVec 32) : S1024.Idx → BitVec 32 :=
  pad S1024 ![0] ![24] ![0] (shapeCast S1000 (extractStridedSlice S1000x1 ![0, 2] a slices_S1000x3_S1000x1_0_2) shapeCasts_S1000x1_S1000)
    (constantI S_ 32 0#32) pads_S1000_S1024_0240 h_S_

theorem positions_inside (a : S1000x3.Idx → BitVec 32) (y : S1024.Idx) (h : (y 0).val < 1000) : positions a y = pick a (y 0).val := by
  refine (pad_apply_of_inside _ _ _ _ _ _ _ y (ix1 ⟨(y 0).val, h⟩ : S1000.Idx) fun c => ?_).trans ?_
  · match c with
    | ⟨0, _⟩ => exact (show (y 0).val = 0 + (y 0).val * (0 + 1) by omega)
  · refine (shapeCast_apply _ shapeCasts_S1000x1_S1000 _ (ix2 ⟨(y 0).val, h⟩ 0 : S1000x1.Idx) ?_).trans ?_
    · rw [Shape.rowMajor_val_one, Shape.rowMajor_val_two]
      show (y 0).val * 1 + 0 = (y 0).val
      omega
    · refine (extractStridedSlice_apply _ a _ _ (ix2 ⟨(y 0).val, h⟩ 2 : S1000x3.Idx) fun c => ?_).trans (pick_eq a _ _ rfl rfl)
      match c with
      | ⟨0, _⟩ => exact (show (y 0).val = 0 + (y 0).val by omega)
      | ⟨1, _⟩ => rfl

theorem positions_outside (a : S1000x3.Idx → BitVec 32) (y : S1024.Idx) (h : ¬ (y 0).val < 1000) : positions a y = 0#32 :=
  pad_apply_of_not_inside _ _ _ _ _ _ _ y ⟨0, by decide⟩ fun hc => h (by
    have h3 : ((y 0).val - 0) / (0 + 1) < 1000 := hc.2.2
    omega)

theorem positions_lt (a : S1000x3.Idx → BitVec 32) (ha : ∀ y, (a y).toNat < 20000) (y : S1024.Idx) : (positions a y).toNat < 20000 := by
  by_cases h : (y 0).val < 1000
  · rw [positions_inside a y h]; exact ha _
  · rw [positions_outside a y h]; decide

/-- Corner `o 0` of the detections, as the host cuts it. -/
theorem column_apply (b : S4x1024.Idx → F .f32) (o : Fin 2 → ℕ) (h : S4x1024.Slices o S1x1000) (h0 : o 0 < 4) (h1 : o 1 = 0) (y : S1000x1.Idx) :
    column b o h y = b (ix2 ⟨o 0, h0⟩ ⟨(y 0).val, Nat.lt_trans (y 0).isLt (by decide)⟩) := by
  refine (broadcastInDim_apply _ _ _ y (ix1 (y 0) : S1000.Idx) fun c => ?_).trans ?_
  · match c with
    | ⟨0, _⟩ => exact (if_neg (show ¬(1000 = 1) by decide)).symm
  · refine (shapeCast_apply _ shapeCasts_S1x1000_S1000 _ (ix2 0 (y 0) : S1x1000.Idx) ?_).trans ?_
    · rw [Shape.rowMajor_val_one, Shape.rowMajor_val_two]
      show 0 * 1000 + (y 0).val = (y 0).val
      omega
    · refine extractStridedSlice_apply _ b _ _ _ fun c => ?_
      match c with
      | ⟨0, _⟩ => rfl
      | ⟨1, _⟩ => exact (show (y 0).val = o 1 + (y 0).val by omega)

variable (a : S1000x3.Idx → BitVec 32) (ha : ∀ y, (a y).toNat < 20000)
include ha

theorem bbox_entries (b : S1x4x20000.Idx → F .f32) :
    broadcastInDim S1x1000x4 ![1, 2] bcast_S1000x4_S1x1000x4_1_2 (concatenate S1000x4 1
        [⟨S1000x1, column (bbAll (positions a) (shapeCast S80000 b shapeCasts_S1x4x20000_S80000)) ![0, 0] slices_S4x1024_S1x1000_0_0⟩,
         ⟨S1000x1, column (bbAll (positions a) (shapeCast S80000 b shapeCasts_S1x4x20000_S80000)) ![1, 0] slices_S4x1024_S1x1000_1_0⟩,
         ⟨S1000x1, column (bbAll (positions a) (shapeCast S80000 b shapeCasts_S1x4x20000_S80000)) ![2, 0] slices_S4x1024_S1x1000_2_0⟩,
         ⟨S1000x1, column (bbAll (positions a) (shapeCast S80000 b shapeCasts_S1x4x20000_S80000)) ![3, 0] slices_S4x1024_S1x1000_3_0⟩]
        concatenates_S1000x1_S1000x1_S1000x1_S1000x1_S1000x4_d1) = outBox a b := by
  generalize hB : bbAll (positions a) (shapeCast S80000 b shapeCasts_S1x4x20000_S80000) = B
  funext y
  refine (broadcastInDim_apply _ _ _ y (ix2 (y 1) (y 2) : S1000x4.Idx) fun c => ?_).trans ?_
  · match c with
    | ⟨0, _⟩ => exact (if_neg (show ¬(1000 = 1) by decide)).symm
    | ⟨1, _⟩ => exact (if_neg (show ¬(4 = 1) by decide)).symm
  have hy : (y 1).val < 1000 := (y 1).isLt
  have hc : (y 2).val < 4 := (y 2).isLt
  have key : ∀ n : Fin 4, B (ix2 n ⟨(y 1).val, Nat.lt_trans hy (by decide)⟩) = corner (fun k => at3 b k (pick a (y 1).val).toNat) n.val := fun n => by
    subst hB
    refine corner_congr _ _ (fun i hi => ?_) n.val n.isLt
    have e : nth (positions a) (y 1).val = pick a (y 1).val :=
      (nth_eq (positions a) (ix1 ⟨(y 1).val, Nat.lt_trans hy (by decide)⟩) (y 1).val rfl).symm.trans (positions_inside a _ hy)
    show nth (n := 80000) _ (nth (positions a) (y 1).val + BitVec.ofNat 32 (20000 * i)).toNat = _
    rw [e, shifted _ (show (pick a (y 1).val).toNat < 20000 from ha _) i (by omega)]
    exact nth_flat (n := 4) b shapeCasts_S1x4x20000_S80000 rfl i _ hi (ha _)
  have piece : ∀ n : Fin 4, (y 2).val = n.val → (concatenate S1000x4 1 (List.ofFn fun n : Fin 4 => (⟨S1000x1,
        (![column B ![0, 0] slices_S4x1024_S1x1000_0_0, column B ![1, 0] slices_S4x1024_S1x1000_1_0,
          column B ![2, 0] slices_S4x1024_S1x1000_2_0, column B ![3, 0] slices_S4x1024_S1x1000_3_0] : Fin 4 → S1000x1.Idx → F .f32) n⟩ : (s : Shape) × (s.Idx → F .f32)))
        concatenates_S1000x1_S1000x1_S1000x1_S1000x1_S1000x4_d1) (ix2 (y 1) (y 2) : S1000x4.Idx)
      = corner (fun k => at3 b k (pick a (y 1).val).toNat) (y 2).val := fun n hn => by
    refine (concatenate_ofFn_unit_apply (t := S1000x4) (s₁ := S1000x1) 1 _ _ rfl rfl (ix2 (y 1) (y 2) : S1000x4.Idx) n hn (ix2 (y 1) 0 : S1000x1.Idx) fun c hne => ?_).trans ?_
    · match c with
      | ⟨0, _⟩ => rfl
      | ⟨1, _⟩ => exact absurd rfl hne
    · rw [hn, ← key n]
      match n with
      | ⟨0, _⟩ => exact column_apply B ![0, 0] slices_S4x1024_S1x1000_0_0 (by decide) rfl _
      | ⟨1, _⟩ => exact column_apply B ![1, 0] slices_S4x1024_S1x1000_1_0 (by decide) rfl _
      | ⟨2, _⟩ => exact column_apply B ![2, 0] slices_S4x1024_S1x1000_2_0 (by decide) rfl _
      | ⟨3, _⟩ => exact column_apply B ![3, 0] slices_S4x1024_S1x1000_3_0 (by decide) rfl _
  exact piece ⟨(y 2).val, hc⟩ rfl

/-- The call's best score and class at a detection. -/
theorem best_entry (s : S1x80x20000.Idx → F .f32) (y : S1024.Idx) (h : (y 0).val < 1000) :
    best (scoresAt (shapeCast S1600000 s shapeCasts_S1x80x20000_S1600000) (positions a y)) = best fun k => at3 s k (pick a (y 0).val).toNat := by
  refine best_congr _ _ fun i hi => ?_
  show nth (n := 1600000) _ (positions a y + BitVec.ofNat 32 (20000 * i)).toNat = _
  rw [positions_inside a y h, shifted _ (show (pick a (y 0).val).toNat < 20000 from ha _) i hi]
  exact nth_flat (n := 80) s shapeCasts_S1x80x20000_S1600000 rfl i _ hi (ha _)

omit [FloatOps F] ha in
/-- A row cut to length and given a leading axis. -/
theorem row_apply {α : Type} (x : S1024.Idx → α) (y : S1x1000.Idx) :
    broadcastInDim S1x1000 ![1] bcast_S1000_S1x1000_1 (extractStridedSlice S1000 ![0] x slices_S1024_S1000_0) y
      = x (ix1 ⟨(y 1).val, Nat.lt_trans (y 1).isLt (by decide)⟩) := by
  refine (broadcastInDim_apply _ _ _ y (ix1 (y 1) : S1000.Idx) fun c => ?_).trans (extractStridedSlice_apply _ x _ _ _ fun c => ?_)
  · match c with
    | ⟨0, _⟩ => exact (if_neg (show ¬(1000 = 1) by decide)).symm
  · match c with
    | ⟨0, _⟩ => exact (show (y 1).val = 0 + (y 1).val by omega)

theorem best_entries (s : S1x80x20000.Idx → F .f32) :
    broadcastInDim S1x1000 ![1] bcast_S1000_S1x1000_1
      (extractStridedSlice S1000 ![0] (bestAll (positions a) (shapeCast S1600000 s shapeCasts_S1x80x20000_S1600000)) slices_S1024_S1000_0) = outBest a s :=
  funext fun y => (row_apply _ y).trans (congrArg Prod.fst (best_entry a ha s _ (y 1).isLt))

theorem cls_entries (s : S1x80x20000.Idx → F .f32) :
    broadcastInDim S1x1000 ![1] bcast_S1000_S1x1000_1
      (extractStridedSlice S1000 ![0] (clsAll (positions a) (shapeCast S1600000 s shapeCasts_S1x80x20000_S1600000)) slices_S1024_S1000_0) = outCls a s :=
  funext fun y => (row_apply _ y).trans (congrArg Prod.snd (best_entry a ha s _ (y 1).isLt))

end Cert.Kernel.Tile

end
-- ==== Proof.KernelRun.lean ====
/- The kernel's program run from detections in range: its results, its arguments and its semaphores at the end. -/
module

public import proofs.«01_k».proof.Proof.Launch
public import proofs.«01_k».proof.Proof.HostEntries
public import proofs.«01_k».proof.Pre_in_range
public import Idealize.ShloMosaic.Lib.ReduceAll

@[expose] public section

noncomputable section

namespace Cert.Kernel.Tile

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.ValueIdx
open Cert.Kernel.Gen

variable {F : FTy → Type} [FloatOps F]

local notation "𝕄" => MT nD τ sig (HIx 1) (Elt F) ℕ UU ℕ

/-- The precondition read off: every word of the detections is a box's position. -/
theorem lt_of_pre [Cert.Pre_in_range.Facts] (a : S1000x3.Idx → BitVec 32) (b : S1x4x20000.Idx → F .f32) (s : S1x80x20000.Idx → F .f32)
    (h : Cert.Pre_in_range.fn a b s = fun _ => 1#1) (y : S1000x3.Idx) : (a y).toNat < 20000 := by
  have : Subsingleton Cert.Pre_in_range.S_.Idx := ⟨fun p q => funext fun c => c.elim0⟩
  have e : IntOp.andi (IntOp.cmpi .sge (a y) 0#32) (IntOp.cmpi .slt (a y) 20000#32) = 1#1 := Host.reduce_andi_all _ _ _ _ ix0 (congrFun h ix0) y
  obtain ⟨e0, e1⟩ := IntOp.andi_eq_one.1 e
  have h0 := IntOp.cmpi_sge.1 e0
  have h1 := IntOp.cmpi_slt.1 e1
  simp only [BitVec.toInt_eq_toNat_cond, BitVec.toNat_ofNat, Nat.reducePow, Nat.reduceMod] at h0 h1
  omega

variable (m : (ℓ : Loc nD τ sig) → Buf (Elt F) ℓ) (ρ : Dev nD → PrngReg)

/-- The detections, the boxes and the scores a device starts with. -/
abbrev detections (d : Dev nD) : S1000x3.Idx → BitVec 32 := m ((d.tc : Thread nD τ).loc main_arg0)
@[inherit_doc detections] abbrev boxes (d : Dev nD) : S1x4x20000.Idx → F .f32 := m ((d.tc : Thread nD τ).loc main_arg1)
@[inherit_doc detections] abbrev scores (d : Dev nD) : S1x80x20000.Idx → F .f32 := m ((d.tc : Thread nD τ).loc main_arg2)

theorem inRange_atCall (hm : ∀ d y, (detections m d y).toNat < 20000) : InRange (atCall m) := fun d y => by
  show ((StableHlo.after opsBefore (atStart m d) (Proc.devRef .tc main_v2) : S1024.Idx → BitVec 32) y).toNat < 20000
  rw [call_ix]
  exact positions_lt _ (hm d) y

/-- A buffer no line of the program writes ends as it began. -/
theorem atEnd_kept (d : Dev nD) (r : Ref sig .tc)
    (ha : r ∉ [main_v6, main_v7, main_v8, main_v9, main_v10, main_v11, main_v12, main_v13, main_v14, main_v15, main_v16, main_v17, main_v18, main_v19,
      main_v20, main_v21, main_v22, main_v23])
    (h0 : r ≠ main_v5_0) (h1 : r ≠ main_v5_1) (h2 : r ≠ main_v5_2)
    (hb : r ∉ [main_v0, main_v1, main_c, main_call0_v0, main_v2, main_v3, main_v4]) : atEnd m d (Proc.devRef .tc r) = m (d, Proc.devRef .tc r) := by
  unfold atEnd atCall
  rw [after_kept _ r ha, called_of_ne _ _ (StableHlo.devRef_ne_of_ne h0) (StableHlo.devRef_ne_of_ne h1) (StableHlo.devRef_ne_of_ne h2),
    before_kept _ r hb]
  rfl

variable (hm : ∀ d y, (detections m d y).toNat < 20000)
include hm

theorem atEnd_bbox (d : Dev nD) : atEnd m d (Proc.devRef .tc main_v19) = outBox (detections m d) (boxes m d) := by
  unfold atEnd
  rw [end_bbox, called_bbox]
  unfold atCall
  rw [call_ix, call_boxes]
  exact bbox_entries (detections m d) (hm d) (boxes m d)

theorem atEnd_best (d : Dev nD) : atEnd m d (Proc.devRef .tc main_v21) = outBest (detections m d) (scores m d) := by
  unfold atEnd
  rw [end_best, called_best]
  unfold atCall
  rw [call_ix, call_scores]
  exact best_entries (detections m d) (hm d) (scores m d)

theorem atEnd_cls (d : Dev nD) : atEnd m d (Proc.devRef .tc main_v23) = outCls (detections m d) (scores m d) := by
  unfold atEnd
  rw [end_cls, called_cls]
  unfold atCall
  rw [call_ix, call_scores]
  exact cls_entries (detections m d) (hm d) (scores m d)

/-- The whole program: from detections in range it ends with the three results, its arguments as they were and every semaphore at zero. -/
theorem kernel_run [∀ e, Nonempty (Elt F e)] :
    θ_run (Cert.Kernel.defs (F := F)) (Cert.Kernel.threads (F := F)) ⟨m, fun _ => 0, ρ⟩ (fun r => (∀ d : Dev nD,
      r.2.mem ((d.tc : Thread nD τ).loc main_v19) = outBox (detections m d) (boxes m d)
      ∧ r.2.mem ((d.tc : Thread nD τ).loc main_v21) = outBest (detections m d) (scores m d)
      ∧ r.2.mem ((d.tc : Thread nD τ).loc main_v23) = outCls (detections m d) (scores m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2))
      ∧ r.2.sem = fun _ => 0) := by
  refine (θ_run _ _ _).mono (fun r h => ⟨fun d => ?_, h.2⟩) (run_main m ρ (inRange_atCall m hm))
  have held : ∀ b : Ref sig .tc, Proc.devRef .tc b ∈ Pipeline.ucRefs τ sig → r.2.mem ((d.tc : Thread nD τ).loc b) = atEnd m d (Proc.devRef .tc b) :=
    fun b hb => h.1 d _ hb
  refine ⟨(held _ (by decide)).trans (atEnd_bbox m hm d), (held _ (by decide)).trans (atEnd_best m hm d), (held _ (by decide)).trans (atEnd_cls m hm d),
    (held _ (by decide)).trans (atEnd_kept m d _ ?_ ?_ ?_ ?_ ?_), (held _ (by decide)).trans (atEnd_kept m d _ ?_ ?_ ?_ ?_ ?_),
    (held _ (by decide)).trans (atEnd_kept m d _ ?_ ?_ ?_ ?_ ?_)⟩ <;> decide

end Cert.Kernel.Tile

end
-- ==== Proof.RefOps.lean ====
/- The reference as four runs of host operations: boxes, scores, the best of the scores, the corners. -/
module

public import proofs.«01_k».proof.Proof.Gen.ReferenceIdeal
public import Idealize.ShloMosaic.Lib.StableHlo.RunHlo
public import Idealize.ShloMosaic.Lib.Pipeline.Frame
public import Idealize.ShloMosaic.Lib.Quiescent

@[expose] public section

noncomputable section

namespace Cert.ReferenceIdeal.Run

open Idealize.ShloMosaic Idealize.SL.Sem Cert.ReferenceIdeal.Gen

variable {F : FTy → Type} [FloatOps F]

/-- The detections' boxes, looked up. -/
def opsBox : List (HloOp τ sig (Elt F)) := [
  StableHlo.unary main_arg0 main_v0 ((extractStridedSlice S1000x1 ![0, 2] · slices_S1000x3_S1000x1_0_2) : (⟨S1000x3, .i32⟩ : BufTy).Contents (Elt F) → (⟨S1000x1, .i32⟩ : BufTy).Contents (Elt F)),
  StableHlo.unary main_v0 main_v1 (broadcastInDim S1000x1x4 ![0, 1] bcast_S1000x1_S1000x1x4_0_1 : (⟨S1000x1, .i32⟩ : BufTy).Contents (Elt F) → (⟨S1000x1x4, .i32⟩ : BufTy).Contents (Elt F)),
  StableHlo.reshape main_v1 main_v2 (rfl : (.i32 : EltTy) = .i32) shapeCasts_S1000x1x4_S1000x4,
  StableHlo.unary main_v2 main_v3 (broadcastInDim S1x1000x4 ![1, 2] bcast_S1000x4_S1x1000x4_1_2 : (⟨S1000x4, .i32⟩ : BufTy).Contents (Elt F) → (⟨S1x1000x4, .i32⟩ : BufTy).Contents (Elt F)),
  StableHlo.unary main_arg1 main_v4 ((transpose S1x20000x4 [0, 2, 1] · transposes_S1x4x20000_S1x20000x4_0_2_1) : (⟨S1x4x20000, .f32⟩ : BufTy).Contents (Elt F) → (⟨S1x20000x4, .f32⟩ : BufTy).Contents (Elt F)),
  StableHlo.TRef.nullary main_call0.c (constantI S_ 32 0#32),
  StableHlo.TRef.unary main_call0.c main_call0.v0 (broadcastInDim S1x1000x4 ![] bcast_S_S1x1000x4),
  StableHlo.TRef.binary (.of main_v3 : StableHlo.TRef sig ⟨S1x1000x4, .i32⟩) main_call0.v0 main_call0.v1 (cmpi .slt),
  StableHlo.TRef.nullary main_call0.c_0 (constantI S_ 32 20000#32),
  StableHlo.TRef.unary main_call0.c_0 main_call0.v2 (broadcastInDim S1x1000x4 ![] bcast_S_S1x1000x4),
  StableHlo.TRef.binary (.of main_v3 : StableHlo.TRef sig ⟨S1x1000x4, .i32⟩) main_call0.v2 main_call0.v3 addi,
  StableHlo.TRef.ternary main_call0.v1 main_call0.v3 (.of main_v3 : StableHlo.TRef sig ⟨S1x1000x4, .i32⟩) main_call0.v4 select,
  StableHlo.TRef.reshape main_call0.v4 main_call0.v5 (rfl : (.i32 : EltTy) = .i32) shapeCasts_S1x1000x4_S1000x4x1,
  StableHlo.TRef.nullary main_call0.c_1 (constantI S1 32 19999#32),
  StableHlo.TRef.nullary main_call0.c_2 (constantI S_ 32 0#32),
  StableHlo.TRef.unary main_call0.c_2 main_call0.v6 (broadcastInDim S1000x4x1 ![] bcast_S_S1000x4x1),
  StableHlo.TRef.binary main_call0.v5 main_call0.v6 main_call0.v7 (cmpi .sge),
  StableHlo.TRef.unary main_call0.c_1 main_call0.v8 (broadcastInDim S1x1x1 ![2] bcast_S1_S1x1x1_2),
  StableHlo.TRef.unary main_call0.v8 main_call0.v9 (broadcastInDim S1000x4x1 ![0, 1, 2] bcast_S1x1x1_S1000x4x1_0_1_2),
  StableHlo.TRef.binary main_call0.v5 main_call0.v9 main_call0.v10 (cmpi .sle),
  StableHlo.TRef.binary main_call0.v7 main_call0.v10 main_call0.v11 andi,
  StableHlo.TRef.nullary main_call0.c_3 (constantI S_ 1 1#1),
  StableHlo.TRef.binary main_call0.v11 main_call0.c_3 main_call0.v12 (fun x v => Host.reduce IntOp.andi x v reducesTo_S1000x4x1_S1000x4_d2 h_S_),
  StableHlo.TRef.binary (.of main_v4 : StableHlo.TRef sig ⟨S1x20000x4, .f32⟩) main_call0.v5 main_call0.v13 (fun x i => Host.gather gather_S1x20000x4_S1000x4x1_S1x1000x4_0_1_2_1_1_2_111 x i),
  StableHlo.TRef.unary main_call0.v12 main_call0.v14 (broadcastInDim S1x1000x4 ![1, 2] bcast_S1000x4_S1x1000x4_1_2),
  StableHlo.TRef.nullary main_call0.cst (constant S_ .f32 0x7FC00000#32),
  StableHlo.TRef.unary main_call0.cst main_call0.v15 (broadcastInDim S1x1000x4 ![] bcast_S_S1x1000x4),
  StableHlo.TRef.ternary main_call0.v14 main_call0.v13 main_call0.v15 main_call0.v16 select]

/-- The detections' scores, looked up. -/
def opsScore : List (HloOp τ sig (Elt F)) := [
  StableHlo.unary main_arg0 main_v6 ((extractStridedSlice S1000x1 ![0, 2] · slices_S1000x3_S1000x1_0_2) : (⟨S1000x3, .i32⟩ : BufTy).Contents (Elt F) → (⟨S1000x1, .i32⟩ : BufTy).Contents (Elt F)),
  StableHlo.unary main_v6 main_v7 (broadcastInDim S1000x1x80 ![0, 1] bcast_S1000x1_S1000x1x80_0_1 : (⟨S1000x1, .i32⟩ : BufTy).Contents (Elt F) → (⟨S1000x1x80, .i32⟩ : BufTy).Contents (Elt F)),
  StableHlo.reshape main_v7 main_v8 (rfl : (.i32 : EltTy) = .i32) shapeCasts_S1000x1x80_S1000x80,
  StableHlo.unary main_v8 main_v9 (broadcastInDim S1x1000x80 ![1, 2] bcast_S1000x80_S1x1000x80_1_2 : (⟨S1000x80, .i32⟩ : BufTy).Contents (Elt F) → (⟨S1x1000x80, .i32⟩ : BufTy).Contents (Elt F)),
  StableHlo.unary main_arg2 main_v10 ((transpose S1x20000x80 [0, 2, 1] · transposes_S1x80x20000_S1x20000x80_0_2_1) : (⟨S1x80x20000, .f32⟩ : BufTy).Contents (Elt F) → (⟨S1x20000x80, .f32⟩ : BufTy).Contents (Elt F)),
  StableHlo.TRef.nullary main_call1.c (constantI S_ 32 0#32),
  StableHlo.TRef.unary main_call1.c main_call1.v0 (broadcastInDim S1x1000x80 ![] bcast_S_S1x1000x80),
  StableHlo.TRef.binary (.of main_v9 : StableHlo.TRef sig ⟨S1x1000x80, .i32⟩) main_call1.v0 main_call1.v1 (cmpi .slt),
  StableHlo.TRef.nullary main_call1.c_0 (constantI S_ 32 20000#32),
  StableHlo.TRef.unary main_call1.c_0 main_call1.v2 (broadcastInDim S1x1000x80 ![] bcast_S_S1x1000x80),
  StableHlo.TRef.binary (.of main_v9 : StableHlo.TRef sig ⟨S1x1000x80, .i32⟩) main_call1.v2 main_call1.v3 addi,
  StableHlo.TRef.ternary main_call1.v1 main_call1.v3 (.of main_v9 : StableHlo.TRef sig ⟨S1x1000x80, .i32⟩) main_call1.v4 select,
  StableHlo.TRef.reshape main_call1.v4 main_call1.v5 (rfl : (.i32 : EltTy) = .i32) shapeCasts_S1x1000x80_S1000x80x1,
  StableHlo.TRef.nullary main_call1.c_1 (constantI S1 32 19999#32),
  StableHlo.TRef.nullary main_call1.c_2 (constantI S_ 32 0#32),
  StableHlo.TRef.unary main_call1.c_2 main_call1.v6 (broadcastInDim S1000x80x1 ![] bcast_S_S1000x80x1),
  StableHlo.TRef.binary main_call1.v5 main_call1.v6 main_call1.v7 (cmpi .sge),
  StableHlo.TRef.unary main_call1.c_1 main_call1.v8 (broadcastInDim S1x1x1 ![2] bcast_S1_S1x1x1_2),
  StableHlo.TRef.unary main_call1.v8 main_call1.v9 (broadcastInDim S1000x80x1 ![0, 1, 2] bcast_S1x1x1_S1000x80x1_0_1_2),
  StableHlo.TRef.binary main_call1.v5 main_call1.v9 main_call1.v10 (cmpi .sle),
  StableHlo.TRef.binary main_call1.v7 main_call1.v10 main_call1.v11 andi,
  StableHlo.TRef.nullary main_call1.c_3 (constantI S_ 1 1#1),
  StableHlo.TRef.binary main_call1.v11 main_call1.c_3 main_call1.v12 (fun x v => Host.reduce IntOp.andi x v reducesTo_S1000x80x1_S1000x80_d2 h_S_),
  StableHlo.TRef.binary (.of main_v10 : StableHlo.TRef sig ⟨S1x20000x80, .f32⟩) main_call1.v5 main_call1.v13 (fun x i => Host.gather gather_S1x20000x80_S1000x80x1_S1x1000x80_0_1_2_1_1_2_111 x i),
  StableHlo.TRef.unary main_call1.v12 main_call1.v14 (broadcastInDim S1x1000x80 ![1, 2] bcast_S1000x80_S1x1000x80_1_2),
  StableHlo.TRef.nullary main_call1.cst (constant S_ .f32 0x7FC00000#32),
  StableHlo.TRef.unary main_call1.cst main_call1.v15 (broadcastInDim S1x1000x80 ![] bcast_S_S1x1000x80),
  StableHlo.TRef.ternary main_call1.v14 main_call1.v13 main_call1.v15 main_call1.v16 select]

/-- The best score and its class. -/
def opsBest : List (HloOp τ sig (Elt F)) := [
  StableHlo.nullary main_cst (constant S_ .f32 0xFF800000#32),
  StableHlo.binary main_v11 main_cst main_v12 ((fun x v => Host.reduce FloatOps.maximumf x v reducesTo_S1x1000x80_S1x1000_d2 h_S_) : (⟨S1x1000x80, .f32⟩ : BufTy).Contents (Elt F) → (⟨S_, .f32⟩ : BufTy).Contents (Elt F) → (⟨S1x1000, .f32⟩ : BufTy).Contents (Elt F)),
  StableHlo.TRef.nullary main_call2.v0 (iotaInDim S1x1000x80 32 2),
  StableHlo.TRef.nullary main_call2.cst (constant S_ .f32 0xFF800000#32),
  StableHlo.TRef.nullary main_call2.c (constantI S_ 32 0#32),
  StableHlo.TRef.quaternary (.of main_v11 : StableHlo.TRef sig ⟨S1x1000x80, .f32⟩) main_call2.v0 main_call2.cst main_call2.c main_call2.v1_0 (fun x y u v j => (Host.argReduce reducer_argmax_f32_i32 x y u v reducesTo_S1x1000x80_S1x1000_d2 h_S_ j).1),
  StableHlo.TRef.quaternary (.of main_v11 : StableHlo.TRef sig ⟨S1x1000x80, .f32⟩) main_call2.v0 main_call2.cst main_call2.c main_call2.v1_1 (fun x y u v j => (Host.argReduce reducer_argmax_f32_i32 x y u v reducesTo_S1x1000x80_S1x1000_d2 h_S_ j).2)]

/-- The corners. -/
def opsCorner : List (HloOp τ sig (Elt F)) := [
  StableHlo.unary main_v5 main_v14 ((extractStridedSlice S1x1000x1 ![0, 0, 0] · slices_S1x1000x4_S1x1000x1_0_0_0) : (⟨S1x1000x4, .f32⟩ : BufTy).Contents (Elt F) → (⟨S1x1000x1, .f32⟩ : BufTy).Contents (Elt F)),
  StableHlo.reshape main_v14 main_v15 (rfl : (.f32 : EltTy) = .f32) shapeCasts_S1x1000x1_S1x1000,
  StableHlo.unary main_v5 main_v16 ((extractStridedSlice S1x1000x1 ![0, 0, 1] · slices_S1x1000x4_S1x1000x1_0_0_1) : (⟨S1x1000x4, .f32⟩ : BufTy).Contents (Elt F) → (⟨S1x1000x1, .f32⟩ : BufTy).Contents (Elt F)),
  StableHlo.reshape main_v16 main_v17 (rfl : (.f32 : EltTy) = .f32) shapeCasts_S1x1000x1_S1x1000,
  StableHlo.unary main_v5 main_v18 ((extractStridedSlice S1x1000x1 ![0, 0, 2] · slices_S1x1000x4_S1x1000x1_0_0_2) : (⟨S1x1000x4, .f32⟩ : BufTy).Contents (Elt F) → (⟨S1x1000x1, .f32⟩ : BufTy).Contents (Elt F)),
  StableHlo.reshape main_v18 main_v19 (rfl : (.f32 : EltTy) = .f32) shapeCasts_S1x1000x1_S1x1000,
  StableHlo.unary main_v5 main_v20 ((extractStridedSlice S1x1000x1 ![0, 0, 3] · slices_S1x1000x4_S1x1000x1_0_0_3) : (⟨S1x1000x4, .f32⟩ : BufTy).Contents (Elt F) → (⟨S1x1000x1, .f32⟩ : BufTy).Contents (Elt F)),
  StableHlo.reshape main_v20 main_v21 (rfl : (.f32 : EltTy) = .f32) shapeCasts_S1x1000x1_S1x1000,
  StableHlo.nullary main_cst_0 (constant S_ .f32 0x3F000000#32),
  StableHlo.unary main_cst_0 main_v22 (broadcastInDim S1x1000 ![] bcast_S_S1x1000 : (⟨S_, .f32⟩ : BufTy).Contents (Elt F) → (⟨S1x1000, .f32⟩ : BufTy).Contents (Elt F)),
  StableHlo.binary main_v22 main_v19 main_v23 (mulf : (⟨S1x1000, .f32⟩ : BufTy).Contents (Elt F) → (⟨S1x1000, .f32⟩ : BufTy).Contents (Elt F) → (⟨S1x1000, .f32⟩ : BufTy).Contents (Elt F)),
  StableHlo.binary main_v15 main_v23 main_v24 (subf : (⟨S1x1000, .f32⟩ : BufTy).Contents (Elt F) → (⟨S1x1000, .f32⟩ : BufTy).Contents (Elt F) → (⟨S1x1000, .f32⟩ : BufTy).Contents (Elt F)),
  StableHlo.nullary main_cst_1 (constant S_ .f32 0x44200000#32),
  StableHlo.unary main_cst_1 main_v25 (broadcastInDim S1x1000 ![] bcast_S_S1x1000 : (⟨S_, .f32⟩ : BufTy).Contents (Elt F) → (⟨S1x1000, .f32⟩ : BufTy).Contents (Elt F)),
  StableHlo.binary main_v24 main_v25 main_v26 (Host.divf : (⟨S1x1000, .f32⟩ : BufTy).Contents (Elt F) → (⟨S1x1000, .f32⟩ : BufTy).Contents (Elt F) → (⟨S1x1000, .f32⟩ : BufTy).Contents (Elt F)),
  StableHlo.nullary main_cst_2 (constant S_ .f32 0x3F000000#32),
  StableHlo.unary main_cst_2 main_v27 (broadcastInDim S1x1000 ![] bcast_S_S1x1000 : (⟨S_, .f32⟩ : BufTy).Contents (Elt F) → (⟨S1x1000, .f32⟩ : BufTy).Contents (Elt F)),
  StableHlo.binary main_v27 main_v21 main_v28 (mulf : (⟨S1x1000, .f32⟩ : BufTy).Contents (Elt F) → (⟨S1x1000, .f32⟩ : BufTy).Contents (Elt F) → (⟨S1x1000, .f32⟩ : BufTy).Contents (Elt F)),
  StableHlo.binary main_v17 main_v28 main_v29 (subf : (⟨S1x1000, .f32⟩ : BufTy).Contents (Elt F) → (⟨S1x1000, .f32⟩ : BufTy).Contents (Elt F) → (⟨S1x1000, .f32⟩ : BufTy).Contents (Elt F)),
  StableHlo.nullary main_cst_3 (constant S_ .f32 0x44200000#32),
  StableHlo.unary main_cst_3 main_v30 (broadcastInDim S1x1000 ![] bcast_S_S1x1000 : (⟨S_, .f32⟩ : BufTy).Contents (Elt F) → (⟨S1x1000, .f32⟩ : BufTy).Contents (Elt F)),
  StableHlo.binary main_v29 main_v30 main_v31 (Host.divf : (⟨S1x1000, .f32⟩ : BufTy).Contents (Elt F) → (⟨S1x1000, .f32⟩ : BufTy).Contents (Elt F) → (⟨S1x1000, .f32⟩ : BufTy).Contents (Elt F)),
  StableHlo.nullary main_cst_4 (constant S_ .f32 0x3F000000#32),
  StableHlo.unary main_cst_4 main_v32 (broadcastInDim S1x1000 ![] bcast_S_S1x1000 : (⟨S_, .f32⟩ : BufTy).Contents (Elt F) → (⟨S1x1000, .f32⟩ : BufTy).Contents (Elt F)),
  StableHlo.binary main_v32 main_v19 main_v33 (mulf : (⟨S1x1000, .f32⟩ : BufTy).Contents (Elt F) → (⟨S1x1000, .f32⟩ : BufTy).Contents (Elt F) → (⟨S1x1000, .f32⟩ : BufTy).Contents (Elt F)),
  StableHlo.binary main_v15 main_v33 main_v34 (addf : (⟨S1x1000, .f32⟩ : BufTy).Contents (Elt F) → (⟨S1x1000, .f32⟩ : BufTy).Contents (Elt F) → (⟨S1x1000, .f32⟩ : BufTy).Contents (Elt F)),
  StableHlo.nullary main_cst_5 (constant S_ .f32 0x44200000#32),
  StableHlo.unary main_cst_5 main_v35 (broadcastInDim S1x1000 ![] bcast_S_S1x1000 : (⟨S_, .f32⟩ : BufTy).Contents (Elt F) → (⟨S1x1000, .f32⟩ : BufTy).Contents (Elt F)),
  StableHlo.binary main_v34 main_v35 main_v36 (Host.divf : (⟨S1x1000, .f32⟩ : BufTy).Contents (Elt F) → (⟨S1x1000, .f32⟩ : BufTy).Contents (Elt F) → (⟨S1x1000, .f32⟩ : BufTy).Contents (Elt F)),
  StableHlo.nullary main_cst_6 (constant S_ .f32 0x3F000000#32),
  StableHlo.unary main_cst_6 main_v37 (broadcastInDim S1x1000 ![] bcast_S_S1x1000 : (⟨S_, .f32⟩ : BufTy).Contents (Elt F) → (⟨S1x1000, .f32⟩ : BufTy).Contents (Elt F)),
  StableHlo.binary main_v37 main_v21 main_v38 (mulf : (⟨S1x1000, .f32⟩ : BufTy).Contents (Elt F) → (⟨S1x1000, .f32⟩ : BufTy).Contents (Elt F) → (⟨S1x1000, .f32⟩ : BufTy).Contents (Elt F)),
  StableHlo.binary main_v17 main_v38 main_v39 (addf : (⟨S1x1000, .f32⟩ : BufTy).Contents (Elt F) → (⟨S1x1000, .f32⟩ : BufTy).Contents (Elt F) → (⟨S1x1000, .f32⟩ : BufTy).Contents (Elt F)),
  StableHlo.nullary main_cst_7 (constant S_ .f32 0x44200000#32),
  StableHlo.unary main_cst_7 main_v40 (broadcastInDim S1x1000 ![] bcast_S_S1x1000 : (⟨S_, .f32⟩ : BufTy).Contents (Elt F) → (⟨S1x1000, .f32⟩ : BufTy).Contents (Elt F)),
  StableHlo.binary main_v39 main_v40 main_v41 (Host.divf : (⟨S1x1000, .f32⟩ : BufTy).Contents (Elt F) → (⟨S1x1000, .f32⟩ : BufTy).Contents (Elt F) → (⟨S1x1000, .f32⟩ : BufTy).Contents (Elt F)),
  StableHlo.unary main_v26 main_v42 (broadcastInDim S1x1000x1 ![0, 1] bcast_S1x1000_S1x1000x1_0_1 : (⟨S1x1000, .f32⟩ : BufTy).Contents (Elt F) → (⟨S1x1000x1, .f32⟩ : BufTy).Contents (Elt F)),
  StableHlo.unary main_v31 main_v43 (broadcastInDim S1x1000x1 ![0, 1] bcast_S1x1000_S1x1000x1_0_1 : (⟨S1x1000, .f32⟩ : BufTy).Contents (Elt F) → (⟨S1x1000x1, .f32⟩ : BufTy).Contents (Elt F)),
  StableHlo.unary main_v36 main_v44 (broadcastInDim S1x1000x1 ![0, 1] bcast_S1x1000_S1x1000x1_0_1 : (⟨S1x1000, .f32⟩ : BufTy).Contents (Elt F) → (⟨S1x1000x1, .f32⟩ : BufTy).Contents (Elt F)),
  StableHlo.unary main_v41 main_v45 (broadcastInDim S1x1000x1 ![0, 1] bcast_S1x1000_S1x1000x1_0_1 : (⟨S1x1000, .f32⟩ : BufTy).Contents (Elt F) → (⟨S1x1000x1, .f32⟩ : BufTy).Contents (Elt F)),
  StableHlo.nary ![main_v42, main_v43, main_v44, main_v45] main_v46 (fun u => (concatenate S1x1000x4 2 [⟨S1x1000x1, (u 0 : (⟨S1x1000x1, .f32⟩ : BufTy).Contents (Elt F))⟩, ⟨S1x1000x1, (u 1 : (⟨S1x1000x1, .f32⟩ : BufTy).Contents (Elt F))⟩, ⟨S1x1000x1, (u 2 : (⟨S1x1000x1, .f32⟩ : BufTy).Contents (Elt F))⟩, ⟨S1x1000x1, (u 3 : (⟨S1x1000x1, .f32⟩ : BufTy).Contents (Elt F))⟩] concatenates_S1x1000x1_S1x1000x1_S1x1000x1_S1x1000x1_S1x1000x4_d2 : (⟨S1x1000x4, .f32⟩ : BufTy).Contents (Elt F)))]

/-- All of them. -/
def ops : List (HloOp τ sig (Elt F)) := opsBox ++ (opsScore ++ (opsBest ++ opsCorner))

set_option maxRecDepth 65536 in
theorem main_eq (d : Dev nD) : main (F := F) d = StableHlo.seq ops := by
  rfl

end Cert.ReferenceIdeal.Run

end
-- ==== Proof.Lookup.lean ====
/- The reference's table look-up read entry by entry: every detection's fields are those of the position it picks. -/
module

public import proofs.«01_k».proof.Proof.Gen.ReferenceIdeal
public import proofs.«01_k».proof.Proof.Spec
public import Idealize.ShloMosaic.Lib.ReduceAll

@[expose] public section

noncomputable section

namespace Cert.ReferenceIdeal.Run

open Idealize.ShloMosaic Idealize.ShloMosaic.ValueIdx Idealize.SL.Sem Cert.ReferenceIdeal.Gen
open Idealize.ShloMosaic.StableHlo.Predicate (slt_iff_toNat sge_iff_toNat sle_iff_toNat toInt_eq_toNat_of_lt)
open Cert.Kernel.Tile (at3 at3_eq pick pick_eq)

variable {C : ℕ}

/-- The look-up's axes: one row of 20000 per field, one index per detection and field. -/
def lookupDims (C : ℕ) (wf : GatherDims.WF ⟨3, ![1, 20000, C]⟩ ⟨3, ![1000, C, 1]⟩ ⟨3, ![1, 1000, C]⟩ [0] [1] [2] [1] [1] 2 ![1, 1, 1]) :
    GatherDims ⟨3, ![1, 20000, C]⟩ ⟨3, ![1000, C, 1]⟩ ⟨3, ![1, 1000, C]⟩ where
  offsetDims := [0]
  collapsedSliceDims := [1]
  operandBatchingDims := [2]
  startIndicesBatchingDims := [1]
  startIndexMap := [1]
  indexVectorDim := 2
  sliceSizes := ![1, 1, 1]
  wf := wf

/-- The gather at `(0, k, f)`: row `idx[k, f]`, kept inside the array, of field `f`. -/
theorem gather_apply {α : Type} (wf : GatherDims.WF ⟨3, ![1, 20000, C]⟩ ⟨3, ![1000, C, 1]⟩ ⟨3, ![1, 1000, C]⟩ [0] [1] [2] [1] [1] 2 ![1, 1, 1])
    (x : (⟨3, ![1, 20000, C]⟩ : Shape).Idx → α) (idx : IVec ⟨3, ![1000, C, 1]⟩ 32) (y : (⟨3, ![1, 1000, C]⟩ : Shape).Idx) :
    Host.gather (lookupDims C wf) x idx y
      = x (ix3 0 ⟨min (idx (ix3 (y 1) (y 2) 0)).toInt.toNat (20000 - 1), by omega⟩ (y 2)) := by
  unfold Host.gather
  congr 1
  funext a
  refine Fin.ext ?_
  show (lookupDims C wf).start y idx a + (lookupDims C wf).batchCoord y a + (lookupDims C wf).offCoord y a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · -- an axis of one entry: whatever is read off it, its coordinate is zero
    have hlt : (lookupDims C wf).start y idx 0 + (lookupDims C wf).batchCoord y 0 + (lookupDims C wf).offCoord y 0 < 1 :=
      ((lookupDims C wf).operandIdx y idx 0).isLt
    exact Nat.lt_one_iff.1 hlt
  · rw [GatherDims.batchCoord_eq_zero _ _ _ (fun h => (show ¬(1 : Fin 3) = 2 by decide) (List.mem_singleton.1 h)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (lookupDims C wf).startIndexMap from List.mem_singleton.mpr rfl)]
    have hsi : (lookupDims C wf).siIdx y ⟨List.idxOf (1 : Fin 3) (lookupDims C wf).startIndexMap,
        List.idxOf_lt_length_iff.2 (List.mem_singleton.mpr rfl)⟩ = ix3 (y 1) (y 2) 0 := by
      funext b; refine Fin.ext ?_
      match b with
      | ⟨0, _⟩ => rfl
      | ⟨1, _⟩ => rfl
      | ⟨2, _⟩ => rfl
    rw [hsi]
    rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (2 : Fin 3) ∈ (lookupDims C wf).operandBatchingDims from List.mem_singleton.mpr rfl)]
    rfl

theorem select_one {α : Type} (c : BitVec 1) (h : c = 1#1) (a b : α) : Scalar.select c a b = a := by subst h; rfl
theorem select_ne_one {α : Type} (c : BitVec 1) (h : c ≠ 1#1) (a b : α) : Scalar.select c a b = b := if_neg h

variable {α : Type}
  (h₀ : S_.BroadcastsInDim ⟨3, ![1, 1000, C]⟩ ![]) (hc : (⟨3, ![1, 1000, C]⟩ : Shape).ShapeCasts ⟨3, ![1000, C, 1]⟩)
  (h₁ : S_.BroadcastsInDim ⟨3, ![1000, C, 1]⟩ ![]) (h₂ : S1x1x1.BroadcastsInDim ⟨3, ![1000, C, 1]⟩ ![0, 1, 2])
  (hr : (⟨3, ![1000, C, 1]⟩ : Shape).ReducesTo [2] ⟨2, ![1000, C]⟩) (hb : (⟨2, ![1000, C]⟩ : Shape).BroadcastsInDim ⟨3, ![1, 1000, C]⟩ ![1, 2])
  (wf : GatherDims.WF ⟨3, ![1, 20000, C]⟩ ⟨3, ![1000, C, 1]⟩ ⟨3, ![1, 1000, C]⟩ [0] [1] [2] [1] [1] 2 ![1, 1, 1])

/-- The indices the look-up reads at: one below zero counted from the end, and a last axis added. -/
def wrapped (i : IVec ⟨3, ![1, 1000, C]⟩ 32) : IVec ⟨3, ![1000, C, 1]⟩ 32 :=
  shapeCast ⟨3, ![1000, C, 1]⟩ (select (cmpi .slt i (broadcastInDim ⟨3, ![1, 1000, C]⟩ ![] h₀ (constantI S_ 32 0#32)))
    (addi i (broadcastInDim ⟨3, ![1, 1000, C]⟩ ![] h₀ (constantI S_ 32 20000#32))) i) hc

/-- Where those indices lie in the array. -/
def inside (z : IVec ⟨3, ![1000, C, 1]⟩ 32) : IVec ⟨3, ![1000, C, 1]⟩ 1 :=
  andi (cmpi .sge z (broadcastInDim ⟨3, ![1000, C, 1]⟩ ![] h₁ (constantI S_ 32 0#32)))
    (cmpi .sle z (broadcastInDim ⟨3, ![1000, C, 1]⟩ ![0, 1, 2] h₂ (broadcastInDim S1x1x1 ![2] bcast_S1_S1x1x1_2 (constantI S1 32 19999#32))))

/-- The look-up: the entries at the indices, and a filling where an index is outside. -/
def takeAlong (x : (⟨3, ![1, 20000, C]⟩ : Shape).Idx → α) (i : IVec ⟨3, ![1, 1000, C]⟩ 32) (fill : (⟨3, ![1, 1000, C]⟩ : Shape).Idx → α) :
    (⟨3, ![1, 1000, C]⟩ : Shape).Idx → α :=
  select (broadcastInDim ⟨3, ![1, 1000, C]⟩ ![1, 2] hb (Host.reduce IntOp.andi (inside h₁ h₂ (wrapped h₀ hc i)) (constantI S_ 1 1#1) hr h_S_))
    (Host.gather (lookupDims C wf) x (wrapped h₀ hc i)) fill

variable (i : IVec ⟨3, ![1, 1000, C]⟩ 32) (hi : ∀ y, (i y).toNat < 20000)
include hi

theorem wrapped_apply (z : (⟨3, ![1000, C, 1]⟩ : Shape).Idx) : wrapped h₀ hc i z = i (ix3 0 (z 0) (z 1)) := by
  refine (shapeCast_apply _ hc z (ix3 0 (z 0) (z 1)) ?_).trans ?_
  · rw [Shape.rowMajor_val_three, Shape.rowMajor_val_three]
    have h2 : (z 2).val < 1 := (z 2).isLt
    show (0 * 1000 + (z 0).val) * C + (z 1).val = ((z 0).val * C + (z 1).val) * 1 + (z 2).val
    rw [Nat.zero_mul, Nat.zero_add, Nat.mul_one]; omega
  · have h := hi (ix3 0 (z 0) (z 1))
    exact select_ne_one _ (fun e => Nat.not_lt_zero _ ((slt_iff_toNat (b := 0#32) (Nat.lt_trans h (by decide)) (by decide)).1 e)) _ _

theorem inside_apply (z : (⟨3, ![1000, C, 1]⟩ : Shape).Idx) : inside h₁ h₂ (wrapped h₀ hc i) z = 1#1 := by
  show IntOp.andi (IntOp.cmpi .sge (wrapped h₀ hc i z) 0#32) (IntOp.cmpi .sle (wrapped h₀ hc i z) 19999#32) = 1#1
  rw [wrapped_apply h₀ hc i hi z]
  have h := hi (ix3 0 (z 0) (z 1))
  exact IntOp.andi_eq_one.2 ⟨(sge_iff_toNat (Nat.lt_trans h (by decide)) (by decide)).2 (Nat.zero_le _),
    (sle_iff_toNat (Nat.lt_trans h (by decide)) (by decide)).2 (Nat.le_of_lt_succ h)⟩

theorem takeAlong_apply (x : (⟨3, ![1, 20000, C]⟩ : Shape).Idx → α) (fill : (⟨3, ![1, 1000, C]⟩ : Shape).Idx → α) (y : (⟨3, ![1, 1000, C]⟩ : Shape).Idx) :
    takeAlong h₀ hc h₁ h₂ hr hb wf x i fill y = x (ix3 0 ⟨(i y).toNat, hi y⟩ (y 2)) := by
  have hy : i (ix3 0 (y 1) (y 2)) = i y := congrArg i (funext fun c => by
    match c with
    | ⟨0, _⟩ => exact Fin.ext (Nat.lt_one_iff.1 (show (y 0).val < 1 from (y 0).isLt)).symm
    | ⟨1, _⟩ => rfl
    | ⟨2, _⟩ => rfl)
  have hv : (i y).toInt = (i y).toNat := toInt_eq_toNat_of_lt (by have := hi y; omega)
  refine (select_one _ ?_ _ _).trans ((gather_apply wf x _ y).trans ?_)
  · exact Host.reduce_andi_one _ _ _ _ _ rfl (inside_apply h₀ hc h₁ h₂ i hi)
  · congr 1; congr 1
    refine Fin.ext ?_
    show min (wrapped h₀ hc i (ix3 (y 1) (y 2) 0)).toInt.toNat (20000 - 1) = (i y).toNat
    rw [wrapped_apply h₀ hc i hi]
    show min (i (ix3 0 (y 1) (y 2))).toInt.toNat (20000 - 1) = (i y).toNat
    rw [hy, hv, Int.toNat_natCast]
    have := hi y
    omega

omit hi i in
/-- The positions the detections pick, one copy per field. -/
def spread (h₃ : S1000x1.BroadcastsInDim ⟨3, ![1000, 1, C]⟩ ![0, 1]) (h₄ : (⟨3, ![1000, 1, C]⟩ : Shape).ShapeCasts ⟨2, ![1000, C]⟩)
    (a : S1000x3.Idx → BitVec 32) : IVec ⟨3, ![1, 1000, C]⟩ 32 :=
  broadcastInDim ⟨3, ![1, 1000, C]⟩ ![1, 2] hb (shapeCast ⟨2, ![1000, C]⟩
    (broadcastInDim ⟨3, ![1000, 1, C]⟩ ![0, 1] h₃ (extractStridedSlice S1000x1 ![0, 2] a slices_S1000x3_S1000x1_0_2)) h₄)

variable (h₃ : S1000x1.BroadcastsInDim ⟨3, ![1000, 1, C]⟩ ![0, 1]) (h₄ : (⟨3, ![1000, 1, C]⟩ : Shape).ShapeCasts ⟨2, ![1000, C]⟩)

omit hi i in
theorem spread_apply (a : S1000x3.Idx → BitVec 32) (y : (⟨3, ![1, 1000, C]⟩ : Shape).Idx) : spread hb h₃ h₄ a y = pick a (y 1).val := by
  refine (broadcastInDim_apply _ hb _ y (ix2 (y 1) (y 2)) fun c => ?_).trans ?_
  · match c with
    | ⟨0, _⟩ => exact (if_neg (show ¬(1000 = 1) by decide)).symm
    | ⟨1, _⟩ =>
      show (y 2).val = if C = 1 then 0 else (y 2).val
      have h : (y 2).val < C := (y 2).isLt
      split <;> omega
  refine (shapeCast_apply _ h₄ _ (ix3 (y 1) 0 (y 2)) ?_).trans ?_
  · rw [Shape.rowMajor_val_three, Shape.rowMajor_val_two]
    show ((y 1).val * 1 + 0) * C + (y 2).val = (y 1).val * C + (y 2).val
    rw [Nat.mul_one, Nat.add_zero]
  refine (broadcastInDim_apply _ h₃ _ _ (ix2 (y 1) 0) fun c => ?_).trans ?_
  · match c with
    | ⟨0, _⟩ => exact (if_neg (show ¬(1000 = 1) by decide)).symm
    | ⟨1, _⟩ => rfl
  refine (extractStridedSlice_apply _ a _ _ (ix2 (y 1) 2) fun c => ?_).trans (pick_eq a _ _ rfl rfl)
  match c with
  | ⟨0, _⟩ => exact (show (y 1).val = 0 + (y 1).val by omega)
  | ⟨1, _⟩ => rfl

omit hi i in
/-- The look-up of every field at the positions the detections pick. -/
theorem lookup_eq [NeZero C] (hT : (⟨3, ![1, C, 20000]⟩ : Shape).Transposes [0, 2, 1] ⟨3, ![1, 20000, C]⟩)
    (a : S1000x3.Idx → BitVec 32) (ha : ∀ y, (a y).toNat < 20000) (x : (⟨3, ![1, C, 20000]⟩ : Shape).Idx → α)
    (fill : (⟨3, ![1, 1000, C]⟩ : Shape).Idx → α) :
    takeAlong h₀ hc h₁ h₂ hr hb wf (transpose ⟨3, ![1, 20000, C]⟩ [0, 2, 1] x hT) (spread hb h₃ h₄ a) fill
      = fun y => at3 x (y 2).val (pick a (y 1).val).toNat := by
  funext y
  refine (takeAlong_apply h₀ hc h₁ h₂ hr hb wf _ (fun z => by rw [spread_apply]; exact ha _) _ fill y).trans ?_
  refine (transpose_apply _ x hT _ (ix3 0 (y 2) ⟨(pick a (y 1).val).toNat, ha _⟩) fun b => ?_).trans (at3_eq x _ _ _ rfl rfl)
  match b with
  | ⟨0, _⟩ => rfl
  | ⟨1, _⟩ => exact (congrArg BitVec.toNat (spread_apply hb h₃ h₄ a y)).symm
  | ⟨2, _⟩ => rfl

end Cert.ReferenceIdeal.Run

end
-- ==== Proof.LastAxis.lean ====
/- Reductions along the last axis of the scores: the greatest of 80 and where it first stands are what one pass from the first finds. -/
module

public import proofs.«01_k».proof.Proof.Gen.ReferenceIdeal
public import proofs.«01_k».proof.Proof.Spec
public import Idealize.ShloMosaic.Lib.Pointwise.Reduce
public import Idealize.ShloMosaic.PureOps.Ideal.Laws

@[expose] public section

noncomputable section

namespace Cert.ReferenceIdeal.Run

open Idealize.ShloMosaic hiding ix3 scan
open Idealize.ShloMosaic.ValueIdx Idealize.SL.Sem Cert.ReferenceIdeal.Gen
open Idealize.ShloMosaic.StableHlo.Predicate (slt_iff_toNat)
open Cert.Kernel.Tile (scan best)

/-- The elements reduced into `j`, in order: those of `j`'s row. -/
theorem row_list (h : S1x1000x80.ReducesTo [2] S1x1000) (j : S1x1000.Idx) :
    ((List.finRange S1x1000x80.numel).filter fun n => h.drop (S1x1000x80.rowMajor.symm n) = j)
      = (List.finRange 80).map fun k => S1x1000x80.rowMajor (ix3 (j 0) (j 1) k) := by
  refine List.Pairwise.eq_of_mem_iff (r := (· < ·)) ((List.pairwise_lt_finRange _).filter _)
    (List.pairwise_map.2 ((List.pairwise_lt_finRange 80).imp fun {a b} hab => ?_)) fun n => ?_
  · rw [Fin.lt_def, Shape.rowMajor_val_three, Shape.rowMajor_val_three]
    have hab' : a.val < b.val := hab
    show ((j 0).val * 1000 + (j 1).val) * 80 + a.val < ((j 0).val * 1000 + (j 1).val) * 80 + b.val
    omega
  · simp only [List.mem_filter, List.mem_finRange, true_and, decide_eq_true_eq, List.mem_map]
    refine (h.fiber_r3_a2 j _).trans (exists_congr fun k => ?_)
    exact (Equiv.eq_symm_apply _)

/-- A fold over a row's elements is a fold over its 80 columns. -/
theorem fold_row {β : Type} (h : S1x1000x80.ReducesTo [2] S1x1000) (j : S1x1000.Idx) (f : β → S1x1000x80.Idx → β) (b : β) :
    ((List.finRange S1x1000x80.numel).filter fun n => h.drop (S1x1000x80.rowMajor.symm n) = j).foldl (fun r n => f r (S1x1000x80.rowMajor.symm n)) b
      = (List.range' 0 80).foldl (fun r k => f r (ix3 (j 0) (j 1) ⟨k % 80, Nat.mod_lt k (by decide)⟩)) b := by
  rw [row_list, List.foldl_map, ← List.range_eq_range', ← List.map_coe_finRange_eq_range, List.foldl_map]
  congr 1
  funext r k
  rw [Equiv.symm_apply_apply]
  congr 2
  exact Fin.ext (Nat.mod_eq_of_lt k.isLt).symm

variable (s : ℕ → Ideal .f32)

theorem max_step (m x : Ideal .f32) : FloatOps.maximumf m x = Scalar.select (FloatOps.cmpf .ogt x m) x m := by
  rw [Ideal.cmpf_def]
  show max m x = _
  by_cases h : m < x
  · simp [Scalar.select, Ideal.cmp, h, max_eq_right h.le]
  · simp [Scalar.select, Ideal.cmp, h, max_eq_left (not_lt.1 h)]

/-- The greatest by a fold is the one the pass keeps. -/
theorem fold_max (n k : ℕ) (m : Ideal .f32) (a : BitVec 32) :
    (List.range' k n).foldl (fun r i => FloatOps.maximumf r (s i)) m = (scan s n k m a).1 := by
  induction n generalizing k m a with
  | zero => rfl
  | succ n ih => rw [List.range'_succ, List.foldl_cons, scan, max_step]; exact ih _ _ _

theorem argmax_step (m x : Ideal .f32) (a b : BitVec 32) (h : IntOp.cmpi .slt a b = 1#1) :
    reducer_argmax_f32_i32 (F := Ideal) (m, a) (x, b)
      = (Scalar.select (FloatOps.cmpf .ogt x m) x m, Scalar.select (FloatOps.cmpf .ogt x m) b a) := by
  unfold reducer_argmax_f32_i32
  simp only [Ideal.cmpf_def, h]
  rcases lt_trichotomy m x with hl | he | hg
  · simp [Scalar.select, Ideal.cmp, IntOp.ori, IntOp.andi, hl, hl.ne, not_lt.2 hl.le]
  · subst he; simp [Scalar.select, Ideal.cmp, IntOp.ori, IntOp.andi]
  · simp [Scalar.select, Ideal.cmp, IntOp.ori, IntOp.andi, hg, hg.ne', not_lt.2 hg.le]

/-- The greatest with its place by a fold is what the pass keeps: a later equal one does not move the place. -/
theorem fold_argmax (n k : ℕ) (m : Ideal .f32) (a : BitVec 32) (ha : a.toNat < k) (hk : k + n ≤ 80) :
    (List.range' k n).foldl (fun r i => reducer_argmax_f32_i32 (F := Ideal) r (s i, BitVec.ofNat 32 i)) (m, a) = scan s n k m a := by
  induction n generalizing k m a with
  | zero => rfl
  | succ n ih =>
    have hkk : (BitVec.ofNat 32 k).toNat = k := by rw [BitVec.toNat_ofNat]; omega
    rw [List.range'_succ, List.foldl_cons, scan, argmax_step m (s k) a _ ((slt_iff_toNat (by omega) (by omega)).2 (by omega))]
    refine ih _ _ _ ?_ (by omega)
    unfold Scalar.select
    split <;> omega

theorem bot_word : Scalar.ofBits (F := Ideal) .f32 0xFF800000#32 = (⊥ : EReal) := by
  show Ideal.ofBits .f32 0xFF800000#32 = _
  simp [Ideal.ofBits, Ideal.ieee, -EReal.coe_mul]

theorem max_row : (List.range' 0 80).foldl (fun r i => FloatOps.maximumf r (s i)) (Scalar.ofBits (F := Ideal) .f32 0xFF800000#32) = (best s).1 := by
  rw [List.range'_succ, List.foldl_cons, bot_word, fold_max s 79 _ _ 0#32]
  show (scan s 79 1 (max ⊥ (s 0)) 0#32).1 = _
  rw [max_eq_right bot_le]; rfl

theorem argmax_row : (List.range' 0 80).foldl (fun r i => reducer_argmax_f32_i32 (F := Ideal) r (s i, BitVec.ofNat 32 i))
    (Scalar.ofBits (F := Ideal) .f32 0xFF800000#32, 0#32) = best s := by
  have h0 : reducer_argmax_f32_i32 (F := Ideal) (Scalar.ofBits (F := Ideal) .f32 0xFF800000#32, 0#32) (s 0, 0#32) = (s 0, 0#32) := by
    rw [bot_word]
    unfold reducer_argmax_f32_i32
    simp only [Ideal.cmpf_def]
    have hb : (⊥ : EReal) ≤ s 0 := bot_le
    rcases hb.lt_or_eq with hl | he
    · simp [Scalar.select, Ideal.cmp, IntOp.ori, IntOp.andi, hl, hl.ne, not_lt.2 hl.le]
    · rw [← he]; simp [Scalar.select, Ideal.cmp, IntOp.ori, IntOp.andi]
  rw [List.range'_succ, List.foldl_cons]
  refine (congrArg (fun p => List.foldl _ p _) h0).trans (fold_argmax s 79 1 (s 0) 0#32 (by decide) (by decide))

/-- The reference's greatest score of a row. -/
theorem reduce_max (x : S1x1000x80.Idx → Ideal .f32) (h : S1x1000x80.ReducesTo [2] S1x1000) (j : S1x1000.Idx) :
    Host.reduce FloatOps.maximumf x (constant (F := Ideal) S_ .f32 0xFF800000#32) h h_S_ j
      = (best fun k => x (ix3 (j 0) (j 1) ⟨k % 80, Nat.mod_lt k (by decide)⟩)).1 :=
  (fold_row h j (fun r i => FloatOps.maximumf r (x i)) _).trans (max_row fun k => x (ix3 (j 0) (j 1) ⟨k % 80, Nat.mod_lt k (by decide)⟩))

/-- The reference's place of the greatest score of a row. -/
theorem reduce_argmax (x : S1x1000x80.Idx → Ideal .f32) (h : S1x1000x80.ReducesTo [2] S1x1000) (j : S1x1000.Idx) :
    (Host.argReduce reducer_argmax_f32_i32 x (iotaInDim S1x1000x80 32 2) (constant (F := Ideal) S_ .f32 0xFF800000#32) (constantI S_ 32 0#32) h h_S_ j).2
      = (best fun k => x (ix3 (j 0) (j 1) ⟨k % 80, Nat.mod_lt k (by decide)⟩)).2 := by
  rw [Ideal.argReduce_eq_reduce2]
  refine congrArg Prod.snd ((fold_row h j (fun r i => reducer_argmax_f32_i32 (F := Ideal) r (x i, iotaInDim S1x1000x80 32 2 i)) _).trans ?_)
  refine Eq.trans (List.foldl_ext _ _ _ fun r k hk => ?_) (argmax_row fun k => x (ix3 (j 0) (j 1) ⟨k % 80, Nat.mod_lt k (by decide)⟩))
  have hk' : k < 80 := by simpa using hk
  show reducer_argmax_f32_i32 (F := Ideal) r (_, BitVec.ofNat 32 (k % 80)) = _
  exact congrArg (fun i => reducer_argmax_f32_i32 (F := Ideal) r (_, BitVec.ofNat 32 i)) (Nat.mod_eq_of_lt hk')

end Cert.ReferenceIdeal.Run

end
-- ==== Proof.RefVals.lean ====
/- What each run of the reference's operations writes, and the values it leaves. -/
module

public import proofs.«01_k».proof.Proof.RefOps
public import proofs.«01_k».proof.Proof.Lookup
public import proofs.«01_k».proof.Proof.LastAxis

@[expose] public section

noncomputable section

namespace Cert.ReferenceIdeal.Run

open Idealize.ShloMosaic Idealize.ShloMosaic.ValueIdx Idealize.SL.Sem Cert.ReferenceIdeal.Gen
open Cert.Kernel.Tile (at3 at3_eq pick pick_eq outBox outBest outCls)

variable {F : FTy → Type} [FloatOps F]

/-- The buffers the run for the boxes writes. -/
def writesBox : List (Ref sig .tc) :=
    [main_v0, main_v1, main_v2, main_v3, main_v4, main_call0_c, main_call0_v0, main_call0_v1, main_call0_c_0, main_call0_v2, main_call0_v3,
      main_call0_v4, main_call0_v5, main_call0_c_1, main_call0_c_2, main_call0_v6, main_call0_v7, main_call0_v8, main_call0_v9,
      main_call0_v10, main_call0_v11, main_call0_c_3, main_call0_v12, main_call0_v13, main_call0_v14, main_call0_cst, main_call0_v15,
      main_v5]

theorem keptBox (V : Valuation τ sig (Elt F)) (r : Ref sig .tc) (h : r ∉ writesBox) :
    StableHlo.after opsBox V (Proc.devRef .tc r) = V (Proc.devRef .tc r) :=
  StableHlo.after_of_writes_sub opsBox V (StableHlo.forall_writes_sub_of_map rfl) h

/-- The buffers the run for the scores writes. -/
def writesScore : List (Ref sig .tc) :=
    [main_v6, main_v7, main_v8, main_v9, main_v10, main_call1_c, main_call1_v0, main_call1_v1, main_call1_c_0, main_call1_v2,
      main_call1_v3, main_call1_v4, main_call1_v5, main_call1_c_1, main_call1_c_2, main_call1_v6, main_call1_v7, main_call1_v8,
      main_call1_v9, main_call1_v10, main_call1_v11, main_call1_c_3, main_call1_v12, main_call1_v13, main_call1_v14, main_call1_cst,
      main_call1_v15, main_v11]

theorem keptScore (V : Valuation τ sig (Elt F)) (r : Ref sig .tc) (h : r ∉ writesScore) :
    StableHlo.after opsScore V (Proc.devRef .tc r) = V (Proc.devRef .tc r) :=
  StableHlo.after_of_writes_sub opsScore V (StableHlo.forall_writes_sub_of_map rfl) h

/-- The buffers the run for the best score writes. -/
def writesBest : List (Ref sig .tc) :=
    [main_cst, main_v12, main_call2_v0, main_call2_cst, main_call2_c, main_call2_v1_0, main_v13]

theorem keptBest (V : Valuation τ sig (Elt F)) (r : Ref sig .tc) (h : r ∉ writesBest) :
    StableHlo.after opsBest V (Proc.devRef .tc r) = V (Proc.devRef .tc r) :=
  StableHlo.after_of_writes_sub opsBest V (StableHlo.forall_writes_sub_of_map rfl) h

/-- The buffers the run for the corners writes. -/
def writesCorner : List (Ref sig .tc) :=
    [main_v14, main_v15, main_v16, main_v17, main_v18, main_v19, main_v20, main_v21, main_cst_0, main_v22, main_v23, main_v24, main_cst_1,
      main_v25, main_v26, main_cst_2, main_v27, main_v28, main_v29, main_cst_3, main_v30, main_v31, main_cst_4, main_v32, main_v33,
      main_v34, main_cst_5, main_v35, main_v36, main_cst_6, main_v37, main_v38, main_v39, main_cst_7, main_v40, main_v41, main_v42,
      main_v43, main_v44, main_v45, main_v46]

theorem keptCorner (V : Valuation τ sig (Elt F)) (r : Ref sig .tc) (h : r ∉ writesCorner) :
    StableHlo.after opsCorner V (Proc.devRef .tc r) = V (Proc.devRef .tc r) :=
  StableHlo.after_of_writes_sub opsCorner V (StableHlo.forall_writes_sub_of_map rfl) h

theorem box_value (V : Valuation τ sig (Elt F)) : StableHlo.after opsBox V (Proc.devRef .tc main_v5)
    = takeAlong (C := 4) bcast_S_S1x1000x4 shapeCasts_S1x1000x4_S1000x4x1 bcast_S_S1000x4x1 bcast_S1x1x1_S1000x4x1_0_1_2
        reducesTo_S1000x4x1_S1000x4_d2 bcast_S1000x4_S1x1000x4_1_2 gather_S1x20000x4_S1000x4x1_S1x1000x4_0_1_2_1_1_2_111_wf
        (transpose S1x20000x4 [0, 2, 1] (V (Proc.devRef .tc main_arg1) : S1x4x20000.Idx → F .f32) transposes_S1x4x20000_S1x20000x4_0_2_1)
        (spread bcast_S1000x4_S1x1000x4_1_2 bcast_S1000x1_S1000x1x4_0_1 shapeCasts_S1000x1x4_S1000x4 (V (Proc.devRef .tc main_arg0)))
        (broadcastInDim S1x1000x4 ![] bcast_S_S1x1000x4 (constant S_ .f32 0x7FC00000#32)) := by
  delta opsBox
  after_results_simp
  simp only [StableHlo.TRef.ofBuf, StableHlo.TRef.toBuf, cast_eq]
  delta takeAlong wrapped inside spread lookupDims
  rfl

theorem score_value (V : Valuation τ sig (Elt F)) : StableHlo.after opsScore V (Proc.devRef .tc main_v11)
    = takeAlong (C := 80) bcast_S_S1x1000x80 shapeCasts_S1x1000x80_S1000x80x1 bcast_S_S1000x80x1 bcast_S1x1x1_S1000x80x1_0_1_2
        reducesTo_S1000x80x1_S1000x80_d2 bcast_S1000x80_S1x1000x80_1_2 gather_S1x20000x80_S1000x80x1_S1x1000x80_0_1_2_1_1_2_111_wf
        (transpose S1x20000x80 [0, 2, 1] (V (Proc.devRef .tc main_arg2) : S1x80x20000.Idx → F .f32) transposes_S1x80x20000_S1x20000x80_0_2_1)
        (spread bcast_S1000x80_S1x1000x80_1_2 bcast_S1000x1_S1000x1x80_0_1 shapeCasts_S1000x1x80_S1000x80 (V (Proc.devRef .tc main_arg0)))
        (broadcastInDim S1x1000x80 ![] bcast_S_S1x1000x80 (constant S_ .f32 0x7FC00000#32)) := by
  delta opsScore
  after_results_simp
  simp only [StableHlo.TRef.ofBuf, StableHlo.TRef.toBuf, cast_eq]
  delta takeAlong wrapped inside spread lookupDims
  rfl

theorem best_value (V : Valuation τ sig (Elt F)) : StableHlo.after opsBest V (Proc.devRef .tc main_v12)
    = Host.reduce FloatOps.maximumf (V (Proc.devRef .tc main_v11) : S1x1000x80.Idx → F .f32) (constant S_ .f32 0xFF800000#32)
        reducesTo_S1x1000x80_S1x1000_d2 h_S_ := by
  delta opsBest
  after_results_simp

theorem cls_value (V : Valuation τ sig (Elt F)) : StableHlo.after opsBest V (Proc.devRef .tc main_v13)
    = fun j => (Host.argReduce reducer_argmax_f32_i32 (V (Proc.devRef .tc main_v11) : S1x1000x80.Idx → F .f32) (iotaInDim S1x1000x80 32 2)
        (constant S_ .f32 0xFF800000#32) (constantI S_ 32 0#32) reducesTo_S1x1000x80_S1x1000_d2 h_S_ j).2 := by
  delta opsBest
  after_results_simp
  rfl

/-- Field `o 2` of every detection's box. -/
def field (x : S1x1000x4.Idx → F .f32) (o : Fin 3 → ℕ) (h : S1x1000x4.Slices o S1x1000x1) : S1x1000.Idx → F .f32 :=
  shapeCast S1x1000 (extractStridedSlice S1x1000x1 o x h) shapeCasts_S1x1000x1_S1x1000

/-- A number at every detection. -/
def every (w : BitVec 32) : S1x1000.Idx → F .f32 := broadcastInDim S1x1000 ![] bcast_S_S1x1000 (constant S_ .f32 w)

/-- A column of corners. -/
def upright (x : S1x1000.Idx → F .f32) : S1x1000x1.Idx → F .f32 := broadcastInDim S1x1000x1 ![0, 1] bcast_S1x1000_S1x1000x1_0_1 x

/-- The corners below the centre `c`, and above it, of boxes of size `s`. -/
def below (c s : S1x1000.Idx → F .f32) : S1x1000x1.Idx → F .f32 :=
  upright (Host.divf (subf c (mulf (every 0x3F000000#32) s)) (every 0x44200000#32))
@[inherit_doc below]
def above (c s : S1x1000.Idx → F .f32) : S1x1000x1.Idx → F .f32 :=
  upright (Host.divf (addf c (mulf (every 0x3F000000#32) s)) (every 0x44200000#32))

/-- The four columns of corners of the boxes `x`. -/
def columns (x : S1x1000x4.Idx → F .f32) : Fin 4 → S1x1000x1.Idx → F .f32 :=
  ![below (field x ![0, 0, 0] slices_S1x1000x4_S1x1000x1_0_0_0) (field x ![0, 0, 2] slices_S1x1000x4_S1x1000x1_0_0_2),
    below (field x ![0, 0, 1] slices_S1x1000x4_S1x1000x1_0_0_1) (field x ![0, 0, 3] slices_S1x1000x4_S1x1000x1_0_0_3),
    above (field x ![0, 0, 0] slices_S1x1000x4_S1x1000x1_0_0_0) (field x ![0, 0, 2] slices_S1x1000x4_S1x1000x1_0_0_2),
    above (field x ![0, 0, 1] slices_S1x1000x4_S1x1000x1_0_0_1) (field x ![0, 0, 3] slices_S1x1000x4_S1x1000x1_0_0_3)]

theorem corner_value (V : Valuation τ sig (Elt F)) : StableHlo.after opsCorner V (Proc.devRef .tc main_v46)
    = concatenate S1x1000x4 2 (List.ofFn fun n : Fin 4 => (⟨S1x1000x1, columns (V (Proc.devRef .tc main_v5)) n⟩ : (s : Shape) × (s.Idx → F .f32)))
        concatenates_S1x1000x1_S1x1000x1_S1x1000x1_S1x1000x1_S1x1000x4_d2 := by
  delta opsCorner
  after_results_simp
  rfl

end Cert.ReferenceIdeal.Run

end
-- ==== Proof.RefRun.lean ====
/- The reference's run: its results are the plain functions of the arguments. -/
module

public import proofs.«01_k».proof.Proof.RefVals

@[expose] public section

noncomputable section

namespace Cert.ReferenceIdeal.Run

open Idealize.ShloMosaic hiding ix0 ix2 ix3
open Idealize.ShloMosaic.ValueIdx Idealize.SL.Sem Cert.ReferenceIdeal.Gen
open Cert.Kernel.Tile (at3 at3_eq pick pick_eq outBox outBest outCls corner corner_congr lo hi best best_congr)

/-- The boxes of the detections, detection by detection. -/
def boxOf {α : Type} {n : ℕ} [NeZero n] (a : S1000x3.Idx → BitVec 32) (x : (⟨3, ![1, n, 20000]⟩ : Shape).Idx → α) : (⟨3, ![1, 1000, n]⟩ : Shape).Idx → α :=
  fun y => at3 x (y 2).val (pick a (y 1).val).toNat

/-! ### The best score -/

section Best

variable (a : S1000x3.Idx → BitVec 32) (s : S1x80x20000.Idx → Ideal .f32)

theorem best_row (j : S1x1000.Idx) :
    best (fun k => boxOf (n := 80) a s (ix3 (j 0) (j 1) ⟨k % 80, Nat.mod_lt k (by decide)⟩)) = best fun k => at3 s k (pick a (j 1).val).toNat :=
  best_congr _ _ fun _ hi => congrArg (fun k => at3 s k (pick a (j 1).val).toNat) (Nat.mod_eq_of_lt hi)

theorem max_entries : Host.reduce FloatOps.maximumf (boxOf (n := 80) a s) (constant (F := Ideal) S_ .f32 0xFF800000#32)
    reducesTo_S1x1000x80_S1x1000_d2 h_S_ = outBest a s :=
  funext fun j => (reduce_max _ _ j).trans (congrArg Prod.fst (best_row a s j))

theorem argmax_entries : (fun j => (Host.argReduce reducer_argmax_f32_i32 (boxOf (n := 80) a s) (iotaInDim S1x1000x80 32 2)
    (constant (F := Ideal) S_ .f32 0xFF800000#32) (constantI S_ 32 0#32) reducesTo_S1x1000x80_S1x1000_d2 h_S_ j).2) = outCls a s :=
  funext fun j => (reduce_argmax _ _ j).trans (congrArg Prod.snd (best_row a s j))

end Best

/-! ### The corners -/

section Corners

theorem field_apply (x : S1x1000x4.Idx → Ideal .f32) (o : Fin 3 → ℕ) (h : S1x1000x4.Slices o S1x1000x1) (h0 : o 0 = 0) (h1 : o 1 = 0) (h2 : o 2 < 4) (j : S1x1000.Idx) :
    field x o h j = x (ix3 (j 0) (j 1) ⟨o 2, h2⟩) := by
  refine (shapeCast_apply _ shapeCasts_S1x1000x1_S1x1000 _ (ix3 (j 0) (j 1) 0 : S1x1000x1.Idx) ?_).trans ?_
  · rw [Shape.rowMajor_val_three, Shape.rowMajor_val_two]
    show ((j 0).val * 1000 + (j 1).val) * 1 + 0 = (j 0).val * 1000 + (j 1).val
    omega
  · refine extractStridedSlice_apply _ x _ _ _ fun c => ?_
    match c with
    | ⟨0, _⟩ => exact (show (j 0).val = o 0 + (j 0).val by omega)
    | ⟨1, _⟩ => exact (show (j 1).val = o 1 + (j 1).val by omega)
    | ⟨2, _⟩ => rfl

theorem every_apply (w : BitVec 32) (j : S1x1000.Idx) : every (F := Ideal) w j = Scalar.ofBits .f32 w :=
  broadcastInDim_apply _ bcast_S_S1x1000 _ j ix0 fun c => c.elim0

theorem upright_apply (x : S1x1000.Idx → Ideal .f32) (y : S1x1000x1.Idx) : upright x y = x (ix2 0 (y 1)) :=
  broadcastInDim_apply _ _ _ y (ix2 0 (y 1) : S1x1000.Idx) fun c => by
    match c with
    | ⟨0, _⟩ => rfl
    | ⟨1, _⟩ => exact (if_neg (show ¬(1000 = 1) by decide)).symm

theorem below_apply (c s : S1x1000.Idx → Ideal .f32) (y : S1x1000x1.Idx) : below c s y = lo (c (ix2 0 (y 1))) (s (ix2 0 (y 1))) := by
  refine (upright_apply _ y).trans ?_
  show FloatOps.divf (FloatOps.subf (c _) (FloatOps.mulf (every _ _) (s _))) (every _ _) = _
  rw [every_apply, every_apply]; rfl

theorem above_apply (c s : S1x1000.Idx → Ideal .f32) (y : S1x1000x1.Idx) : above c s y = hi (c (ix2 0 (y 1))) (s (ix2 0 (y 1))) := by
  refine (upright_apply _ y).trans ?_
  show FloatOps.divf (FloatOps.addf (c _) (FloatOps.mulf (every _ _) (s _))) (every _ _) = _
  rw [every_apply, every_apply]; rfl

variable (a : S1000x3.Idx → BitVec 32) (b : S1x4x20000.Idx → Ideal .f32)

theorem field_box (o : Fin 3 → ℕ) (h : S1x1000x4.Slices o S1x1000x1) (h0 : o 0 = 0) (h1 : o 1 = 0) (h2 : o 2 < 4) (k : Fin 1000) :
    field (boxOf (n := 4) a b) o h (ix2 0 k) = at3 b (o 2) (pick a k.val).toNat := field_apply _ o h h0 h1 h2 _

theorem column_apply (n : Fin 4) (y : S1x1000x1.Idx) :
    columns (boxOf (n := 4) a b) n y = corner (fun k => at3 b k (pick a (y 1).val).toNat) n.val := by
  match n with
  | ⟨0, _⟩ =>
    exact (below_apply _ _ y).trans (congrArg₂ lo (field_box a b ![0, 0, 0] _ rfl rfl (by decide) _) (field_box a b ![0, 0, 2] _ rfl rfl (by decide) _))
  | ⟨1, _⟩ =>
    exact (below_apply _ _ y).trans (congrArg₂ lo (field_box a b ![0, 0, 1] _ rfl rfl (by decide) _) (field_box a b ![0, 0, 3] _ rfl rfl (by decide) _))
  | ⟨2, _⟩ =>
    exact (above_apply _ _ y).trans (congrArg₂ hi (field_box a b ![0, 0, 0] _ rfl rfl (by decide) _) (field_box a b ![0, 0, 2] _ rfl rfl (by decide) _))
  | ⟨3, _⟩ =>
    exact (above_apply _ _ y).trans (congrArg₂ hi (field_box a b ![0, 0, 1] _ rfl rfl (by decide) _) (field_box a b ![0, 0, 3] _ rfl rfl (by decide) _))

theorem corner_entries : concatenate S1x1000x4 2 (List.ofFn fun n : Fin 4 => (⟨S1x1000x1, columns (boxOf (n := 4) a b) n⟩ : (s : Shape) × (s.Idx → Ideal .f32)))
    concatenates_S1x1000x1_S1x1000x1_S1x1000x1_S1x1000x1_S1x1000x4_d2 = outBox a b := by
  funext y
  refine (concatenate_ofFn_unit_apply (t := S1x1000x4) (s₁ := S1x1000x1) 2 _ _ rfl rfl y ⟨(y 2).val, (y 2).isLt⟩ rfl (ix3 (y 0) (y 1) 0 : S1x1000x1.Idx) fun c hne => ?_).trans ?_
  · match c with
    | ⟨0, _⟩ => rfl
    | ⟨1, _⟩ => rfl
    | ⟨2, _⟩ => exact absurd rfl hne
  · exact column_apply a b ⟨(y 2).val, (y 2).isLt⟩ _

end Corners

/-! ### The run -/

theorem no_refs_scoped : (Finset.univ.filter fun b : Ref sig .tc => b.isScoped) = ∅ := by decide
theorem no_sems_scoped : (Finset.univ.filter fun sm : SemLoc sig => sm.isScoped .tc) = ∅ := by decide

section Ops

variable {F : FTy → Type} [FloatOps F]

theorem box_sub : (opsBox (F := F)).Forall fun op => op.bufs ⊆ StableHlo.tcRefs τ sig := by
  unfold opsBox
  simp only [List.Forall, StableHlo.TRef.unary, StableHlo.TRef.nullary, StableHlo.TRef.binary, StableHlo.TRef.ternary, StableHlo.TRef.reshape,
    StableHlo.nullary_bufs_sub, StableHlo.unary_bufs_sub, StableHlo.binary_bufs_sub, StableHlo.ternary_bufs_sub, StableHlo.reshape_bufs_sub, and_self]
theorem score_sub : (opsScore (F := F)).Forall fun op => op.bufs ⊆ StableHlo.tcRefs τ sig := by
  unfold opsScore
  simp only [List.Forall, StableHlo.TRef.unary, StableHlo.TRef.nullary, StableHlo.TRef.binary, StableHlo.TRef.ternary, StableHlo.TRef.reshape,
    StableHlo.nullary_bufs_sub, StableHlo.unary_bufs_sub, StableHlo.binary_bufs_sub, StableHlo.ternary_bufs_sub, StableHlo.reshape_bufs_sub, and_self]
theorem best_sub : (opsBest (F := F)).Forall fun op => op.bufs ⊆ StableHlo.tcRefs τ sig := by
  unfold opsBest
  simp only [List.Forall, StableHlo.TRef.nullary, StableHlo.TRef.quaternary, StableHlo.nullary_bufs_sub, StableHlo.binary_bufs_sub, StableHlo.quaternary_bufs_sub, and_self]
theorem corner_sub : (opsCorner (F := F)).Forall fun op => op.bufs ⊆ StableHlo.tcRefs τ sig := by
  unfold opsCorner
  simp only [List.Forall, StableHlo.nullary_bufs_sub, StableHlo.unary_bufs_sub, StableHlo.binary_bufs_sub, StableHlo.reshape_bufs_sub, StableHlo.nary_bufs_sub, and_self]

theorem ops_sub : (ops (F := F)).Forall fun op => op.bufs ⊆ StableHlo.tcRefs τ sig :=
  (List.forall_append).2 ⟨box_sub, (List.forall_append).2 ⟨score_sub, (List.forall_append).2 ⟨best_sub, corner_sub⟩⟩⟩

theorem ops_fresh : ∀ op ∈ (ops (F := F)), op.fresh = ∅ :=
  List.forall_iff_forall_mem.mp ((List.forall_append).2 ⟨StableHlo.forall_fresh_of_map rfl, (List.forall_append).2
    ⟨StableHlo.forall_fresh_of_map rfl, (List.forall_append).2 ⟨StableHlo.forall_fresh_of_map rfl, StableHlo.forall_fresh_of_map rfl⟩⟩⟩)

theorem after_ops (V : Valuation τ sig (Elt F)) :
    StableHlo.after ops V = StableHlo.after opsCorner (StableHlo.after opsBest (StableHlo.after opsScore (StableHlo.after opsBox V))) := by
  unfold ops; rw [StableHlo.after_append, StableHlo.after_append, StableHlo.after_append]

theorem ops_kept (V : Valuation τ sig (Elt F)) (r : Ref sig .tc) (h : r ∉ writesBox) (h₁ : r ∉ writesScore) (h₂ : r ∉ writesBest) (h₃ : r ∉ writesCorner) :
    StableHlo.after ops V (Proc.devRef .tc r) = V (Proc.devRef .tc r) := by
  rw [after_ops, keptCorner _ r h₃, keptBest _ r h₂, keptScore _ r h₁, keptBox _ r h]

end Ops

variable (V : Valuation τ sig (Elt Ideal)) (hV : ∀ y, ((V (Proc.devRef .tc main_arg0) : S1000x3.Idx → BitVec 32) y).toNat < 20000)
include hV

theorem box_found : StableHlo.after opsBox V (Proc.devRef .tc main_v5) = boxOf (n := 4) (V (Proc.devRef .tc main_arg0)) (V (Proc.devRef .tc main_arg1)) :=
  (box_value V).trans (lookup_eq _ _ _ _ _ _ _ _ _ _ _ hV _ _)

theorem score_found : StableHlo.after opsScore V (Proc.devRef .tc main_v11) = boxOf (n := 80) (V (Proc.devRef .tc main_arg0)) (V (Proc.devRef .tc main_arg2)) :=
  (score_value V).trans (lookup_eq _ _ _ _ _ _ _ _ _ _ _ hV _ _)

theorem score_end : StableHlo.after opsScore (StableHlo.after opsBox V) (Proc.devRef .tc main_v11)
    = boxOf (n := 80) (V (Proc.devRef .tc main_arg0)) (V (Proc.devRef .tc main_arg2)) := by
  have h0 := keptBox V main_arg0 (by decide)
  refine (score_found _ fun y => ?_).trans ?_
  · rw [h0]; exact hV y
  · rw [h0, keptBox V main_arg2 (by decide)]

theorem best_end : StableHlo.after ops V (Proc.devRef .tc main_v12) = outBest (F := Ideal) (V (Proc.devRef .tc main_arg0)) (V (Proc.devRef .tc main_arg2)) := by
  rw [after_ops, keptCorner _ _ (by decide), best_value, score_end V hV]
  exact max_entries _ _

theorem cls_end : StableHlo.after ops V (Proc.devRef .tc main_v13) = outCls (F := Ideal) (V (Proc.devRef .tc main_arg0)) (V (Proc.devRef .tc main_arg2)) := by
  rw [after_ops, keptCorner _ _ (by decide), cls_value, score_end V hV]
  exact argmax_entries _ _

theorem box_end : StableHlo.after ops V (Proc.devRef .tc main_v46) = outBox (F := Ideal) (V (Proc.devRef .tc main_arg0)) (V (Proc.devRef .tc main_arg1)) := by
  rw [after_ops, corner_value, keptBest _ _ (by decide), keptScore _ _ (by decide), box_found V hV]
  exact corner_entries _ _

omit V hV in
/-- The reference run from any memory: what every buffer ends with, and every semaphore at zero. -/
theorem run_all (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r =>
      (∀ (d : Dev nD) (b : Ref sig .tc), r.2.mem ((d.tc : Thread nD τ).loc b) = StableHlo.after ops (StableHlo.launchContents m d) (Proc.devRef .tc b))
      ∧ r.2.sem = fun _ => 0) :=
  (θ_run _ _ _).mono (fun r h => ⟨h, sem_eq_zero_of_no_sems (by decide) r.2⟩)
    (StableHlo.run_seq no_refs_scoped no_sems_scoped _ _ (fun _ => ops) main_eq (fun _ => ops_sub) m ρ (fun _ => ops_fresh))

end Cert.ReferenceIdeal.Run

end
-- ==== Proof.lean ====
/- The claim of `Cert.Claim` (proofs.«01_k».proof.Defs): the kernel's program, read over words and over the extended
   reals, runs from detections in range and leaves its arguments and semaphores as they were; so does the reference;
   and over the extended reals the two end with the same three results. -/
module

public import proofs.«01_k».proof.Defs
public import proofs.«01_k».proof.Proof.Gen.KernelIdeal
public import proofs.«01_k».proof.Proof.Gen.ReferenceIdeal
public import proofs.«01_k».proof.Proof.Gen.Pre_in_range
public import proofs.«01_k».proof.Proof.KernelRun
public import proofs.«01_k».proof.Proof.RefRun

@[expose] public section

noncomputable section

namespace Cert.Proof

open Idealize.ShloMosaic Idealize.SL.Sem
open Cert.Kernel.Tile (outBox outBest outCls lt_of_pre kernel_run)

attribute [local instance] Cert.Kernel.Gen.facts Cert.KernelIdeal.Gen.facts Cert.ReferenceIdeal.Gen.facts Cert.Pre_in_range.Gen.facts

instance elt_nonempty {F : FTy → Type} [FloatOps F] (e : EltTy) : Nonempty (Elt F e) := by
  cases e <;> first | exact ⟨(BitVec.ofNat _ 0 : BitVec _)⟩ | exact ⟨FloatOps.ofBits _ (BitVec.ofNat _ 0)⟩

theorem quiescent_Kernel : Cert.quiescent_Kernel := fun m g hp =>
  (θ_run _ _ _).mono (fun _ h => ⟨fun c => (h.1 c).2.2.2, h.2⟩) (kernel_run m g fun d y => lt_of_pre _ _ _ (hp d) y)

section Ideal

variable (m : (ℓ : Loc Cert.KernelIdeal.nD Cert.KernelIdeal.τ Cert.KernelIdeal.sig) → Buf (Elt Ideal) ℓ) (g : Dev Cert.KernelIdeal.nD → PrngReg)

/-- The detections, the boxes and the scores a device starts with. -/
abbrev detections (d : Dev Cert.KernelIdeal.nD) : Cert.KernelIdeal.S1000x3.Idx → BitVec 32 := m ((d.tc : Thread Cert.KernelIdeal.nD Cert.KernelIdeal.τ).loc Cert.KernelIdeal.main_arg0)
@[inherit_doc detections]
abbrev boxes (d : Dev Cert.KernelIdeal.nD) : Cert.KernelIdeal.S1x4x20000.Idx → Ideal .f32 := m ((d.tc : Thread Cert.KernelIdeal.nD Cert.KernelIdeal.τ).loc Cert.KernelIdeal.main_arg1)
@[inherit_doc detections]
abbrev scores (d : Dev Cert.KernelIdeal.nD) : Cert.KernelIdeal.S1x80x20000.Idx → Ideal .f32 := m ((d.tc : Thread Cert.KernelIdeal.nD Cert.KernelIdeal.τ).loc Cert.KernelIdeal.main_arg2)

set_option maxRecDepth 65536 in
set_option maxHeartbeats 4000000 in
theorem ideal_run (hm : ∀ d y, (detections m d y).toNat < 20000) :
    θ_run (Cert.KernelIdeal.defs (F := Ideal)) (Cert.KernelIdeal.threads (F := Ideal)) ⟨m, fun _ => 0, g⟩ (fun r => (∀ d : Dev Cert.KernelIdeal.nD,
      r.2.mem ((d.tc : Thread Cert.KernelIdeal.nD Cert.KernelIdeal.τ).loc Cert.KernelIdeal.main_v19) = outBox (F := Ideal) (detections m d) (boxes m d)
      ∧ r.2.mem ((d.tc : Thread Cert.KernelIdeal.nD Cert.KernelIdeal.τ).loc Cert.KernelIdeal.main_v21) = outBest (F := Ideal) (detections m d) (scores m d)
      ∧ r.2.mem ((d.tc : Thread Cert.KernelIdeal.nD Cert.KernelIdeal.τ).loc Cert.KernelIdeal.main_v23) = outCls (F := Ideal) (detections m d) (scores m d)
      ∧ r.2.mem ((d.tc : Thread Cert.KernelIdeal.nD Cert.KernelIdeal.τ).loc Cert.KernelIdeal.main_arg0) = m ((d.tc : Thread Cert.KernelIdeal.nD Cert.KernelIdeal.τ).loc Cert.KernelIdeal.main_arg0)
      ∧ r.2.mem ((d.tc : Thread Cert.KernelIdeal.nD Cert.KernelIdeal.τ).loc Cert.KernelIdeal.main_arg1) = m ((d.tc : Thread Cert.KernelIdeal.nD Cert.KernelIdeal.τ).loc Cert.KernelIdeal.main_arg1)
      ∧ r.2.mem ((d.tc : Thread Cert.KernelIdeal.nD Cert.KernelIdeal.τ).loc Cert.KernelIdeal.main_arg2) = m ((d.tc : Thread Cert.KernelIdeal.nD Cert.KernelIdeal.τ).loc Cert.KernelIdeal.main_arg2))
      ∧ r.2.sem = fun _ => 0) :=
  kernel_run (F := Ideal) m g hm

end Ideal

theorem ideal_in_range (m : (ℓ : Loc Cert.KernelIdeal.nD Cert.KernelIdeal.τ Cert.KernelIdeal.sig) → Buf (Elt Ideal) ℓ) (hp : Cert.Pre_KernelIdeal m)
    (d : Dev Cert.KernelIdeal.nD) (y : Cert.KernelIdeal.S1000x3.Idx) : (detections m d y).toNat < 20000 := lt_of_pre _ _ _ (hp d) y

theorem quiescent_KernelIdeal : Cert.quiescent_KernelIdeal := fun m g hp =>
  (θ_run _ _ _).mono (fun _ h => ⟨fun c => (h.1 c).2.2.2, h.2⟩) (ideal_run m g (ideal_in_range m hp))

open Cert.ReferenceIdeal Cert.ReferenceIdeal.Run in
theorem reference_quiet (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun _ h => ⟨fun c =>
    ⟨(h.1 c _).trans (ops_kept _ _ (by decide) (by decide) (by decide) (by decide)),
     (h.1 c _).trans (ops_kept _ _ (by decide) (by decide) (by decide) (by decide)),
     (h.1 c _).trans (ops_kept _ _ (by decide) (by decide) (by decide) (by decide))⟩, h.2⟩) (run_all m g)

open Cert.ReferenceIdeal Cert.ReferenceIdeal.Run in
theorem reference_values (m : (ℓ : Loc nD τ sig) → Buf (Elt Ideal) ℓ) (g : Dev nD → PrngReg)
    (hm : ∀ (d : Dev nD) (y : S1000x3.Idx), ((m ((d.tc : Thread nD τ).loc main_arg0) : S1000x3.Idx → BitVec 32) y).toNat < 20000) :
    θ_run (Cert.ReferenceIdeal.defs (F := Ideal)) (onTc (τ := τ) (Cert.ReferenceIdeal.main (F := Ideal))) ⟨m, fun _ => 0, g⟩ (fun r => ∀ c : Dev nD,
      r.2.mem ((c.tc : Thread nD τ).loc main_v46) = outBox (F := Ideal) (m ((c.tc : Thread nD τ).loc main_arg0)) (m ((c.tc : Thread nD τ).loc main_arg1))
      ∧ r.2.mem ((c.tc : Thread nD τ).loc main_v12) = outBest (F := Ideal) (m ((c.tc : Thread nD τ).loc main_arg0)) (m ((c.tc : Thread nD τ).loc main_arg2))
      ∧ r.2.mem ((c.tc : Thread nD τ).loc main_v13) = outCls (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c =>
    ⟨(h.1 c _).trans (box_end _ (hm c)), (h.1 c _).trans (best_end _ (hm c)), (h.1 c _).trans (cls_end _ (hm c)),
     (h.1 c _).trans (ops_kept _ _ (by decide) (by decide) (by decide) (by decide)),
     (h.1 c _).trans (ops_kept _ _ (by decide) (by decide) (by decide) (by decide)),
     (h.1 c _).trans (ops_kept _ _ (by decide) (by decide) (by decide) (by decide))⟩) (run_all m g)

theorem algebraic : Cert.algebraic_KernelIdeal_ReferenceIdeal := by
  intro m g m' g' hp hargs
  have h0 := fun c => (hargs c).1
  have h1 := fun c => (hargs c).2.1
  have h2 := fun c => (hargs c).2.2
  refine ⟨fun d => outBox (F := Ideal) (detections m d) (boxes m d), fun d => outBest (F := Ideal) (detections m d) (scores m d),
    fun d => outCls (F := Ideal) (detections m d) (scores m d), ?_, ?_⟩
  · exact (θ_run _ _ _).mono (fun _ h c => h.1 c) (ideal_run m g (ideal_in_range m hp))
  · refine (θ_run _ _ _).mono (fun _ h c => ?_) (reference_values m' g' fun d y => (congrArg (fun a => (a y).toNat) (h0 d)).trans_lt (ideal_in_range m hp d y))
    exact ⟨(h c).1.trans (congrArg₂ (outBox (F := Ideal)) (h0 c) (h1 c)), (h c).2.1.trans (congrArg₂ (outBest (F := Ideal)) (h0 c) (h2 c)),
      (h c).2.2.1.trans (congrArg₂ (outCls (F := Ideal)) (h0 c) (h2 c)), (h c).2.2.2⟩

theorem claim : Cert.Claim :=
  ⟨Cert.Kernel.Gen.facts, Cert.KernelIdeal.Gen.facts, Cert.ReferenceIdeal.Gen.facts, Cert.Pre_in_range.Gen.facts,
    quiescent_Kernel, quiescent_KernelIdeal, fun m g _ => reference_quiet m g, fun m g _ => reference_quiet m g, trivial, algebraic⟩

end Cert.Proof

end
